-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_capacity_KernelIdeal [hPre_within_capacity_KernelIdeal : Cert.Pre_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_capacity_ReferenceIdeal [hPre_within_capacity_ReferenceIdeal : Cert.Pre_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_within_capacity_KernelIdeal [hKernelIdeal : Cert.KernelIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_within_capacity_ReferenceIdeal [hReferenceIdeal : Cert.ReferenceIdeal.Facts] [hPre_within_capacity_ReferenceIdeal : Cert.Pre_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_within_capacity_KernelIdeal [hKernelIdeal : Cert.KernelIdeal.Facts] [hReferenceIdeal : Cert.ReferenceIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_capacity_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![2048, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v94) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_within_capacity_KernelIdeal : Cert.Pre_within_capacity_KernelIdeal.Facts) (hPre_within_capacity_ReferenceIdeal : Cert.Pre_within_capacity_ReferenceIdeal.Facts),
    quiescent_Kernel (hKernel := hKernel)
    ∧ quiescent_KernelIdeal (hKernelIdeal := hKernelIdeal)
    ∧ quiescent_KernelIdeal_pre_within_capacity_KernelIdeal (hKernelIdeal := hKernelIdeal) (hPre_within_capacity_KernelIdeal := hPre_within_capacity_KernelIdeal)
    ∧ quiescent_ReferenceIdeal (hReferenceIdeal := hReferenceIdeal)
    ∧ quiescent_ReferenceIdeal_pre_within_capacity_ReferenceIdeal (hReferenceIdeal := hReferenceIdeal) (hPre_within_capacity_ReferenceIdeal := hPre_within_capacity_ReferenceIdeal)
    ∧ preserves_Kernel_KernelIdeal
    ∧ algebraic_KernelIdeal_ReferenceIdeal_pre_within_capacity_KernelIdeal (hKernelIdeal := hKernelIdeal) (hReferenceIdeal := hReferenceIdeal) (hPre_within_capacity_KernelIdeal := hPre_within_capacity_KernelIdeal)
-- ==== Pre_within_capacity_KernelIdeal.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩

class Facts : Prop where
  bcast_S_S512x1 : S_.BroadcastsInDim S512x1 (![] : Fin 0 → Fin S512x1.rank)
  natLt_1_32 : 1 < 32
  reducesTo_S512x1_S_d0_1 : S512x1.ReducesTo [0, 1] S_
  h_S_ : 0 < S_.numel

variable [Facts]

def fn_part1 {F : FTy → Type} [FloatOps F] (main_v5 : IVec S_ 32) (main_v9 : IVec S_ 32) (main_v13 : IVec S_ 32) (main_v15 : IVec S512x1 1) : IVec S_ 1 :=
  let main_v16 : IVec S512x1 32 := (extui 32 · natLt_1_32) main_v15
  let main_c_7 : IVec S_ 32 := constantI S_ 32 0#32
  let main_v17 : IVec S_ 32 := (fun x v => Host.reduce IntOp.addi x v reducesTo_S512x1_S_d0_1 h_S_) main_v16 main_c_7
  let main_c_8 : IVec S_ 32 := constantI S_ 32 192#32
  let main_v18 : IVec S_ 1 := cmpi .sle main_v5 main_c_8
  let main_c_9 : IVec S_ 32 := constantI S_ 32 192#32
  let main_v19 : IVec S_ 1 := cmpi .sle main_v9 main_c_9
  let main_v20 : IVec S_ 1 := andi main_v18 main_v19
  let main_c_10 : IVec S_ 32 := constantI S_ 32 192#32
  let main_v21 : IVec S_ 1 := cmpi .sle main_v13 main_c_10
  let main_v22 : IVec S_ 1 := andi main_v20 main_v21
  let main_c_11 : IVec S_ 32 := constantI S_ 32 192#32
  let main_v23 : IVec S_ 1 := cmpi .sle main_v17 main_c_11
  let main_v24 : IVec S_ 1 := andi main_v22 main_v23
  main_v24

def fn {F : FTy → Type} [FloatOps F] (main_arg0 : FVec F S512x256 .bf16) (main_arg1 : FVec F S256x8 .bf16) (main_arg2 : IVec S512x1 32) (main_arg3 : FVec F S2x256x512 .bf16) (main_arg4 : FVec F S256x512 .bf16) : IVec S_ 1 :=
  let main_c : IVec S_ 32 := constantI S_ 32 2#32
  let main_v0 : IVec S512x1 32 := broadcastInDim S512x1 ![] bcast_S_S512x1 main_c
  let main_v1 : IVec S512x1 32 := Host.divsi main_arg2 main_v0
  let main_c_0 : IVec S_ 32 := constantI S_ 32 0#32
  let main_v2 : IVec S512x1 32 := broadcastInDim S512x1 ![] bcast_S_S512x1 main_c_0
  let main_v3 : IVec S512x1 1 := cmpi .eq main_v1 main_v2
  let main_v4 : IVec S512x1 32 := (extui 32 · natLt_1_32) main_v3
  let main_c_1 : IVec S_ 32 := constantI S_ 32 0#32
  let main_v5 : IVec S_ 32 := (fun x v => Host.reduce IntOp.addi x v reducesTo_S512x1_S_d0_1 h_S_) main_v4 main_c_1
  let main_c_2 : IVec S_ 32 := constantI S_ 32 1#32
  let main_v6 : IVec S512x1 32 := broadcastInDim S512x1 ![] bcast_S_S512x1 main_c_2
  let main_v7 : IVec S512x1 1 := cmpi .eq main_v1 main_v6
  let main_v8 : IVec S512x1 32 := (extui 32 · natLt_1_32) main_v7
  let main_c_3 : IVec S_ 32 := constantI S_ 32 0#32
  let main_v9 : IVec S_ 32 := (fun x v => Host.reduce IntOp.addi x v reducesTo_S512x1_S_d0_1 h_S_) main_v8 main_c_3
  let main_c_4 : IVec S_ 32 := constantI S_ 32 2#32
  let main_v10 : IVec S512x1 32 := broadcastInDim S512x1 ![] bcast_S_S512x1 main_c_4
  let main_v11 : IVec S512x1 1 := cmpi .eq main_v1 main_v10
  let main_v12 : IVec S512x1 32 := (extui 32 · natLt_1_32) main_v11
  let main_c_5 : IVec S_ 32 := constantI S_ 32 0#32
  let main_v13 : IVec S_ 32 := (fun x v => Host.reduce IntOp.addi x v reducesTo_S512x1_S_d0_1 h_S_) main_v12 main_c_5
  let main_c_6 : IVec S_ 32 := constantI S_ 32 3#32
  let main_v14 : IVec S512x1 32 := broadcastInDim S512x1 ![] bcast_S_S512x1 main_c_6
  let main_v15 : IVec S512x1 1 := cmpi .eq main_v1 main_v14
  fn_part1 (F := F) main_v5 main_v9 main_v13 main_v15
-- ==== Pre_within_capacity_ReferenceIdeal.lean ====
abbrev S2048x256 : Shape := ⟨2, ![2048, 256]⟩
abbrev S256x8 : Shape := ⟨2, ![256, 8]⟩
abbrev S2048x1 : Shape := ⟨2, ![2048, 1]⟩
abbrev S8x256x512 : Shape := ⟨3, ![8, 256, 512]⟩
abbrev S256x512 : Shape := ⟨2, ![256, 512]⟩
abbrev S_ : Shape := ⟨0, ![]⟩

class Facts : Prop where
  bcast_S_S2048x1 : S_.BroadcastsInDim S2048x1 (![] : Fin 0 → Fin S2048x1.rank)
  natLt_1_32 : 1 < 32
  reducesTo_S2048x1_S_d0_1 : S2048x1.ReducesTo [0, 1] S_
  h_S_ : 0 < S_.numel

variable [Facts]

def fn_part1 {F : FTy → Type} [FloatOps F] (main_v5 : IVec S_ 32) (main_v9 : IVec S_ 32) (main_v13 : IVec S_ 32) (main_v15 : IVec S2048x1 1) : IVec S_ 1 :=
  let main_v16 : IVec S2048x1 32 := (extui 32 · natLt_1_32) main_v15
  let main_c_7 : IVec S_ 32 := constantI S_ 32 0#32
  let main_v17 : IVec S_ 32 := (fun x v => Host.reduce IntOp.addi x v reducesTo_S2048x1_S_d0_1 h_S_) main_v16 main_c_7
  let main_c_8 : IVec S_ 32 := constantI S_ 32 192#32
  let main_v18 : IVec S_ 1 := cmpi .sle main_v5 main_c_8
  let main_c_9 : IVec S_ 32 := constantI S_ 32 192#32
  let main_v19 : IVec S_ 1 := cmpi .sle main_v9 main_c_9
  let main_v20 : IVec S_ 1 := andi main_v18 main_v19
  let main_c_10 : IVec S_ 32 := constantI S_ 32 192#32
  let main_v21 : IVec S_ 1 := cmpi .sle main_v13 main_c_10
  let main_v22 : IVec S_ 1 := andi main_v20 main_v21
  let main_c_11 : IVec S_ 32 := constantI S_ 32 192#32
  let main_v23 : IVec S_ 1 := cmpi .sle main_v17 main_c_11
  let main_v24 : IVec S_ 1 := andi main_v22 main_v23
  main_v24

def fn {F : FTy → Type} [FloatOps F] (main_arg0 : FVec F S2048x256 .bf16) (main_arg1 : FVec F S256x8 .bf16) (main_arg2 : IVec S2048x1 32) (main_arg3 : FVec F S8x256x512 .bf16) (main_arg4 : FVec F S256x512 .bf16) : IVec S_ 1 :=
  let main_c : IVec S_ 32 := constantI S_ 32 2#32
  let main_v0 : IVec S2048x1 32 := broadcastInDim S2048x1 ![] bcast_S_S2048x1 main_c
  let main_v1 : IVec S2048x1 32 := Host.divsi main_arg2 main_v0
  let main_c_0 : IVec S_ 32 := constantI S_ 32 0#32
  let main_v2 : IVec S2048x1 32 := broadcastInDim S2048x1 ![] bcast_S_S2048x1 main_c_0
  let main_v3 : IVec S2048x1 1 := cmpi .eq main_v1 main_v2
  let main_v4 : IVec S2048x1 32 := (extui 32 · natLt_1_32) main_v3
  let main_c_1 : IVec S_ 32 := constantI S_ 32 0#32
  let main_v5 : IVec S_ 32 := (fun x v => Host.reduce IntOp.addi x v reducesTo_S2048x1_S_d0_1 h_S_) main_v4 main_c_1
  let main_c_2 : IVec S_ 32 := constantI S_ 32 1#32
  let main_v6 : IVec S2048x1 32 := broadcastInDim S2048x1 ![] bcast_S_S2048x1 main_c_2
  let main_v7 : IVec S2048x1 1 := cmpi .eq main_v1 main_v6
  let main_v8 : IVec S2048x1 32 := (extui 32 · natLt_1_32) main_v7
  let main_c_3 : IVec S_ 32 := constantI S_ 32 0#32
  let main_v9 : IVec S_ 32 := (fun x v => Host.reduce IntOp.addi x v reducesTo_S2048x1_S_d0_1 h_S_) main_v8 main_c_3
  let main_c_4 : IVec S_ 32 := constantI S_ 32 2#32
  let main_v10 : IVec S2048x1 32 := broadcastInDim S2048x1 ![] bcast_S_S2048x1 main_c_4
  let main_v11 : IVec S2048x1 1 := cmpi .eq main_v1 main_v10
  let main_v12 : IVec S2048x1 32 := (extui 32 · natLt_1_32) main_v11
  let main_c_5 : IVec S_ 32 := constantI S_ 32 0#32
  let main_v13 : IVec S_ 32 := (fun x v => Host.reduce IntOp.addi x v reducesTo_S2048x1_S_d0_1 h_S_) main_v12 main_c_5
  let main_c_6 : IVec S_ 32 := constantI S_ 32 3#32
  let main_v14 : IVec S2048x1 32 := broadcastInDim S2048x1 ![] bcast_S_S2048x1 main_c_6
  let main_v15 : IVec S2048x1 1 := cmpi .eq main_v1 main_v14
  fn_part1 (F := F) main_v5 main_v9 main_v13 main_v15
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S6x112x256 : Shape := ⟨3, ![6, 112, 256]⟩
abbrev S6x96x512 : Shape := ⟨3, ![6, 96, 512]⟩
abbrev S6 : Shape := ⟨1, ![6]⟩
abbrev S_ : Shape := ⟨0, ![]⟩
abbrev S1x4 : Shape := ⟨2, ![1, 4]⟩
abbrev S512x4 : Shape := ⟨2, ![512, 4]⟩
abbrev S512x192 : Shape := ⟨2, ![512, 192]⟩
abbrev S1x192 : Shape := ⟨2, ![1, 192]⟩
abbrev S512x96 : Shape := ⟨2, ![512, 96]⟩
abbrev S96x256 : Shape := ⟨2, ![96, 256]⟩
abbrev S1x96x256 : Shape := ⟨3, ![1, 96, 256]⟩
abbrev S1x96 : Shape := ⟨2, ![1, 96]⟩
abbrev S1x1x32 : Shape := ⟨3, ![1, 1, 32]⟩
abbrev S1x32 : Shape := ⟨2, ![1, 32]⟩
abbrev S1x128 : Shape := ⟨2, ![1, 128]⟩
abbrev S1x1x128 : Shape := ⟨3, ![1, 1, 128]⟩
abbrev S1x2x128 : Shape := ⟨3, ![1, 2, 128]⟩
abbrev S1 : Shape := ⟨1, ![1]⟩
abbrev S1x112x256 : Shape := ⟨3, ![1, 112, 256]⟩
abbrev S112x256 : Shape := ⟨2, ![112, 256]⟩
abbrev S512x8 : Shape := ⟨2, ![512, 8]⟩
abbrev S512 : Shape := ⟨1, ![512]⟩
abbrev S1x256x512 : Shape := ⟨3, ![1, 256, 512]⟩
abbrev S96x96 : Shape := ⟨2, ![96, 96]⟩
abbrev S1x1x96 : Shape := ⟨3, ![1, 1, 96]⟩
abbrev S96x1 : Shape := ⟨2, ![96, 1]⟩
abbrev S96x512 : Shape := ⟨2, ![96, 512]⟩
abbrev S1x96x512 : Shape := ⟨3, ![1, 96, 512]⟩

abbrev nBuf : Space → Nat
  | .hbm => 6
  | .vmem => 10
  | .smem => 0
  | _ => 0

abbrev bufTy : (tb : Table) → Fin (tcTables nBuf tb) → BufTy
  | .hbm, ⟨0, _⟩ => ⟨S512x256, .bf16⟩
  | .hbm, ⟨1, _⟩ => ⟨S256x8, .bf16⟩
  | .hbm, ⟨2, _⟩ => ⟨S512x1, .i32⟩
  | .hbm, ⟨3, _⟩ => ⟨S2x256x512, .bf16⟩
  | .hbm, ⟨4, _⟩ => ⟨S256x512, .bf16⟩
  | .hbm, ⟨5, _⟩ => ⟨S512x512, .f32⟩
  | .local _ .vmem, ⟨0, _⟩ => ⟨S512x256, .bf16⟩
  | .local _ .vmem, ⟨1, _⟩ => ⟨S256x8, .bf16⟩
  | .local _ .vmem, ⟨2, _⟩ => ⟨S512x1, .i32⟩
  | .local _ .vmem, ⟨3, _⟩ => ⟨S2x256x512, .bf16⟩
  | .local _ .vmem, ⟨4, _⟩ => ⟨S256x512, .bf16⟩
  | .local _ .vmem, ⟨5, _⟩ => ⟨S512x512, .f32⟩
  | .local _ .vmem, ⟨6, _⟩ => ⟨S6x112x256, .bf16⟩
  | .local _ .vmem, ⟨7, _⟩ => ⟨S6x112x256, .bf16⟩
  | .local _ .vmem, ⟨8, _⟩ => ⟨S6x96x512, .bf16⟩
  | .local _ .vmem, ⟨9, _⟩ => ⟨S6x96x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v70 : BitVec 32 := Scalar.addi v2 c1_i32_30
  let c4_i32_31 : BitVec 32 := 4#32
  let v71 : BitVec 32 := Scalar.remsi v70 c4_i32_31
  let c1_i32_36 : BitVec 32 := 1#32
  let v72 : BitVec 32 := Scalar.muli v71 c1_i32_36
  let v73 : BitVec 32 := Scalar.addi c0_i32_37 v72
  v73.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_51 : BitVec 32 := 1#32
  let v95 : BitVec 32 := Scalar.addi v2 c1_i32_51
  let c4_i32_52 : BitVec 32 := 4#32
  let v96 : BitVec 32 := Scalar.remsi v95 c4_i32_52
  let c1_i32_57 : BitVec 32 := 1#32
  let v97 : BitVec 32 := Scalar.muli v96 c1_i32_57
  let v98 : BitVec 32 := Scalar.addi c0_i32_58 v97
  v98.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_73 : BitVec 32 := 2#32
  let v132 : BitVec 32 := Scalar.addi v2 c2_i32_73
  let c4_i32_74 : BitVec 32 := 4#32
  let v133 : BitVec 32 := Scalar.remsi v132 c4_i32_74
  let c1_i32_79 : BitVec 32 := 1#32
  let v134 : BitVec 32 := Scalar.muli v133 c1_i32_79
  let v135 : BitVec 32 := Scalar.addi c0_i32_80 v134
  v135.toNat
def k0_dev7 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_94 : BitVec 32 := 2#32
  let v157 : BitVec 32 := Scalar.addi v2 c2_i32_94
  let c4_i32_95 : BitVec 32 := 4#32
  let v158 : BitVec 32 := Scalar.remsi v157 c4_i32_95
  let c1_i32_100 : BitVec 32 := 1#32
  let v159 : BitVec 32 := Scalar.muli v158 c1_i32_100
  let v160 : BitVec 32 := Scalar.addi c0_i32_101 v159
  v160.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_116 : BitVec 32 := 3#32
  let v194 : BitVec 32 := Scalar.addi v2 c3_i32_116
  let c4_i32_117 : BitVec 32 := 4#32
  let v195 : BitVec 32 := Scalar.remsi v194 c4_i32_117
  let c1_i32_122 : BitVec 32 := 1#32
  let v196 : BitVec 32 := Scalar.muli v195 c1_i32_122
  let v197 : BitVec 32 := Scalar.addi c0_i32_123 v196
  v197.toNat
def k0_dev9 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_137 : BitVec 32 := 3#32
  let v219 : BitVec 32 := Scalar.addi v2 c3_i32_137
  let c4_i32_138 : BitVec 32 := 4#32
  let v220 : BitVec 32 := Scalar.remsi v219 c4_i32_138
  let c1_i32_142 : BitVec 32 := 1#32
  let v221 : BitVec 32 := Scalar.muli v220 c1_i32_142
  let v222 : BitVec 32 := Scalar.addi c0_i32_143 v221
  v222.toNat
def k0_dev10 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_187 : BitVec 32 := 1#32
  let v306 : BitVec 32 := Scalar.subi v2 c1_i32_187
  let c4_i32_188 : BitVec 32 := 4#32
  let v307 : BitVec 32 := Scalar.addi v306 c4_i32_188
  let c4_i32_189 : BitVec 32 := 4#32
  let v308 : BitVec 32 := Scalar.remsi v307 c4_i32_189
  let c1_i32_194 : BitVec 32 := 1#32
  let v309 : BitVec 32 := Scalar.muli v308 c1_i32_194
  let v310 : BitVec 32 := Scalar.addi c0_i32_195 v309
  v310.toNat
def k0_dev11 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_223 : BitVec 32 := 3#32
  let v348 : BitVec 32 := Scalar.subi v2 c3_i32_223
  let c4_i32_224 : BitVec 32 := 4#32
  let v349 : BitVec 32 := Scalar.addi v348 c4_i32_224
  let c4_i32_225 : BitVec 32 := 4#32
  let v350 : BitVec 32 := Scalar.remsi v349 c4_i32_225
  let c1_i32_230 : BitVec 32 := 1#32
  let v351 : BitVec 32 := Scalar.muli v350 c1_i32_230
  let v352 : BitVec 32 := Scalar.addi c0_i32_231 v351
  v352.toNat
def k0_dev12 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_259 : BitVec 32 := 2#32
  let v390 : BitVec 32 := Scalar.subi v2 c2_i32_259
  let c4_i32_260 : BitVec 32 := 4#32
  let v391 : BitVec 32 := Scalar.addi v390 c4_i32_260
  let c4_i32_261 : BitVec 32 := 4#32
  let v392 : BitVec 32 := Scalar.remsi v391 c4_i32_261
  let c1_i32_266 : BitVec 32 := 1#32
  let v393 : BitVec 32 := Scalar.muli v392 c1_i32_266
  let v394 : BitVec 32 := Scalar.addi c0_i32_267 v393
  v394.toNat
def k0_dev13 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_295 : BitVec 32 := 1#32
  let v432 : BitVec 32 := Scalar.subi v2 c1_i32_295
  let c4_i32_296 : BitVec 32 := 4#32
  let v433 : BitVec 32 := Scalar.addi v432 c4_i32_296
  let c4_i32_297 : BitVec 32 := 4#32
  let v434 : BitVec 32 := Scalar.remsi v433 c4_i32_297
  let c1_i32_302 : BitVec 32 := 1#32
  let v435 : BitVec 32 := Scalar.muli v434 c1_i32_302
  let v436 : BitVec 32 := Scalar.addi c0_i32_303 v435
  v436.toNat
def k0_dev14 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_331 : BitVec 32 := 3#32
  let v474 : BitVec 32 := Scalar.subi v2 c3_i32_331
  let c4_i32_332 : BitVec 32 := 4#32
  let v475 : BitVec 32 := Scalar.addi v474 c4_i32_332
  let c4_i32_333 : BitVec 32 := 4#32
  let v476 : BitVec 32 := Scalar.remsi v475 c4_i32_333
  let c1_i32_338 : BitVec 32 := 1#32
  let v477 : BitVec 32 := Scalar.muli v476 c1_i32_338
  let v478 : BitVec 32 := Scalar.addi c0_i32_339 v477
  v478.toNat
def k0_dev15 (d0 : Dev nD) : Nat :=
  let c0_i32_375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_367 : BitVec 32 := 2#32
  let v516 : BitVec 32 := Scalar.subi v2 c2_i32_367
  let c4_i32_368 : BitVec 32 := 4#32
  let v517 : BitVec 32 := Scalar.addi v516 c4_i32_368
  let c4_i32_369 : BitVec 32 := 4#32
  let v518 : BitVec 32 := Scalar.remsi v517 c4_i32_369
  let c1_i32_374 : BitVec 32 := 1#32
  let v519 : BitVec 32 := Scalar.muli v518 c1_i32_374
  let v520 : BitVec 32 := Scalar.addi c0_i32_375 v519
  v520.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x256 : Shape := ⟨2, ![2048, 256]⟩
abbrev S256x8 : Shape := ⟨2, ![256, 8]⟩
abbrev S2048x1 : Shape := ⟨2, ![2048, 1]⟩
abbrev S8x256x512 : Shape := ⟨3, ![8, 256, 512]⟩
abbrev S256x512 : Shape := ⟨2, ![256, 512]⟩
abbrev S2048x8 : Shape := ⟨2, ![2048, 8]⟩
abbrev S_ : Shape := ⟨0, ![]⟩
abbrev S2048 : Shape := ⟨1, ![2048]⟩
abbrev S2048x512 : Shape := ⟨2, ![2048, 512]⟩
abbrev S1x256x512 : Shape := ⟨3, ![1, 256, 512]⟩

abbrev nBuf : Space → Nat
  | .hbm => 142
  | .vmem => 0
  | .smem => 0
  | _ => 0

abbrev hbmTy0_0 (i : Nat) : BufTy := match i % 128 with
  | 0 => ⟨S2048x256, .bf16⟩
  | 1 => ⟨S256x8, .bf16⟩
  | 2 => ⟨S2048x1, .i32⟩
  | 3 => ⟨S8x256x512, .bf16⟩
  | 4 => ⟨S256x512, .bf16⟩
  | 5 => ⟨S2048x256, .f32⟩
  | 6 => ⟨S256x8, .f32⟩
  | 7 => ⟨S8x256x512, .f32⟩
  | 8 => ⟨S256x512, .f32⟩
  | 9 => ⟨S2048x8, .f32⟩
  | 10 => ⟨S_, .f32⟩
  | 11 => ⟨S2048, .f32⟩
  | 12 => ⟨S2048x1, .f32⟩
  | 13 => ⟨S2048x8, .f32⟩
  | 14 => ⟨S2048x8, .f32⟩
  | 15 => ⟨S2048x8, .f32⟩
  | 16 => ⟨S_, .f32⟩
  | 17 => ⟨S2048, .f32⟩
  | 18 => ⟨S2048x1, .f32⟩
  | 19 => ⟨S2048x8, .f32⟩
  | 20 => ⟨S2048x8, .f32⟩
  | 21 => ⟨S2048x512, .f32⟩
  | 22 => ⟨S_, .i32⟩
  | 23 => ⟨S2048x1, .i32⟩
  | 24 => ⟨S2048x1, .i1⟩
  | 25 => ⟨S2048x1, .f32⟩
  | 26 => ⟨S1x256x512, .f32⟩
  | 27 => ⟨S256x512, .f32⟩
  | 28 => ⟨S2048x512, .f32⟩
  | 29 => ⟨S2048x512, .f32⟩
  | 30 => ⟨S2048x512, .f32⟩
  | 31 => ⟨S_, .f32⟩
  | 32 => ⟨S_, .f32⟩
  | 33 => ⟨S2048x512, .i1⟩
  | 34 => ⟨S2048x512, .f32⟩
  | 35 => ⟨S2048x512, .f32⟩
  | 36 => ⟨S2048x512, .f32⟩
  | 37 => ⟨S_, .i32⟩
  | 38 => ⟨S2048x1, .i32⟩
  | 39 => ⟨S2048x1, .i1⟩
  | 40 => ⟨S2048x1, .f32⟩
  | 41 => ⟨S1x256x512, .f32⟩
  | 42 => ⟨S256x512, .f32⟩
  | 43 => ⟨S2048x512, .f32⟩
  | 44 => ⟨S2048x512, .f32⟩
  | 45 => ⟨S2048x512, .f32⟩
  | 46 => ⟨S_, .f32⟩
  | 47 => ⟨S_, .f32⟩
  | 48 => ⟨S2048x512, .i1⟩
  | 49 => ⟨S2048x512, .f32⟩
  | 50 => ⟨S2048x512, .f32⟩
  | 51 => ⟨S2048x512, .f32⟩
  | 52 => ⟨S_, .i32⟩
  | 53 => ⟨S2048x1, .i32⟩
  | 54 => ⟨S2048x1, .i1⟩
  | 55 => ⟨S2048x1, .f32⟩
  | 56 => ⟨S1x256x512, .f32⟩
  | 57 => ⟨S256x512, .f32⟩
  | 58 => ⟨S2048x512, .f32⟩
  | 59 => ⟨S2048x512, .f32⟩
  | 60 => ⟨S2048x512, .f32⟩
  | 61 => ⟨S_, .f32⟩
  | 62 => ⟨S_, .f32⟩
  | 63 => ⟨S2048x512, .i1⟩
  | 64 => ⟨S2048x512, .f32⟩
  | 65 => ⟨S2048x512, .f32⟩
  | 66 => ⟨S2048x512, .f32⟩
  | 67 => ⟨S_, .i32⟩
  | 68 => ⟨S2048x1, .i32⟩
  | 69 => ⟨S2048x1, .i1⟩
  | 70 => ⟨S2048x1, .f32⟩
  | 71 => ⟨S1x256x512, .f32⟩
  | 72 => ⟨S256x512, .f32⟩
  | 73 => ⟨S2048x512, .f32⟩
  | 74 => ⟨S2048x512, .f32⟩
  | 75 => ⟨S2048x512, .f32⟩
  | 76 => ⟨S_, .f32⟩
  | 77 => ⟨S_, .f32⟩
  | 78 => ⟨S2048x512, .i1⟩
  | 79 => ⟨S2048x512, .f32⟩
  | 80 => ⟨S2048x512, .f32⟩
  | 81 => ⟨S2048x512, .f32⟩
  | 82 => ⟨S_, .i32⟩
  | 83 => ⟨S2048x1, .i32⟩
  | 84 => ⟨S2048x1, .i1⟩
  | 85 => ⟨S2048x1, .f32⟩
  | 86 => ⟨S1x256x512, .f32⟩
  | 87 => ⟨S256x512, .f32⟩
  | 88 => ⟨S2048x512, .f32⟩
  | 89 => ⟨S2048x512, .f32⟩
  | 90 => ⟨S2048x512, .f32⟩
  | 91 => ⟨S_, .f32⟩
  | 92 => ⟨S_, .f32⟩
  | 93 => ⟨S2048x512, .i1⟩
  | 94 => ⟨S2048x512, .f32⟩
  | 95 => ⟨S2048x512, .f32⟩
  | 96 => ⟨S2048x512, .f32⟩
  | 97 => ⟨S_, .i32⟩
  | 98 => ⟨S2048x1, .i32⟩
  | 99 => ⟨S2048x1, .i1⟩
  | 100 => ⟨S2048x1, .f32⟩
  | 101 => ⟨S1x256x512, .f32⟩
  | 102 => ⟨S256x512, .f32⟩
  | 103 => ⟨S2048x512, .f32⟩
  | 104 => ⟨S2048x512, .f32⟩
  | 105 => ⟨S2048x512, .f32⟩
  | 106 => ⟨S_, .f32⟩
  | 107 => ⟨S_, .f32⟩
  | 108 => ⟨S2048x512, .i1⟩
  | 109 => ⟨S2048x512, .f32⟩
  | 110 => ⟨S2048x512, .f32⟩
  | 111 => ⟨S2048x512, .f32⟩
  | 112 => ⟨S_, .i32⟩
  | 113 => ⟨S2048x1, .i32⟩
  | 114 => ⟨S2048x1, .i1⟩
  | 115 => ⟨S2048x1, .f32⟩
  | 116 => ⟨S1x256x512, .f32⟩
  | 117 => ⟨S256x512, .f32⟩
  | 118 => ⟨S2048x512, .f32⟩
  | 119 => ⟨S2048x512, .f32⟩
  | 120 => ⟨S2048x512, .f32⟩
  | 121 => ⟨S_, .f32⟩
  | 122 => ⟨S_, .f32⟩
  | 123 => ⟨S2048x512, .i1⟩
  | 124 => ⟨S2048x512, .f32⟩
  | 125 => ⟨S2048x512, .f32⟩
  | 126 => ⟨S2048x512, .f32⟩
  | 127 => ⟨S_, .i32⟩
  | _ => ⟨S2048x256, .bf16⟩

abbrev hbmTy0_1 (i : Nat) : BufTy := match i % 128 with
  | 0 => ⟨S2048x1, .i32⟩
  | 1 => ⟨S2048x1, .i1⟩
  | 2 => ⟨S2048x1, .f32⟩
  | 3 => ⟨S1x256x512, .f32⟩
  | 4 => ⟨S256x512, .f32⟩
  | 5 => ⟨S2048x512, .f32⟩
  | 6 => ⟨S2048x512, .f32⟩
  | 7 => ⟨S2048x512, .f32⟩
  | 8 => ⟨S_, .f32⟩
  | 9 => ⟨S_, .f32⟩
  | 10 => ⟨S2048x512, .i1⟩
  | 11 => ⟨S2048x512, .f32⟩
  | 12 => ⟨S2048x512, .f32⟩
  | 13 => ⟨S2048x512, .f32⟩
  | _ => ⟨S2048x256, .bf16⟩

abbrev hbmTy (i : Nat) : BufTy := match i / 128 with
  | 0 => hbmTy0_0 i
  | 1 => hbmTy0_1 i
  | _ => ⟨S2048x256, .bf16⟩

abbrev bufTy : (tb : Table) → Fin (tcTables nBuf tb) → BufTy
  | .hbm, ⟨i, _⟩ => hbmTy i
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v53 : Ref sig .tc := ⟨.hbm, 80, rfl⟩
abbrev main_v54 : Ref sig .tc := ⟨.hbm, 81, rfl⟩
abbrev main_c_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_9 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v63 : Ref sig .tc := ⟨.hbm, 95, rfl⟩
abbrev main_v64 : Ref sig .tc := ⟨.hbm, 96, rfl⟩
abbrev main_c_10 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_11 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v73 : Ref sig .tc := ⟨.hbm, 110, rfl⟩
abbrev main_v74 : Ref sig .tc := ⟨.hbm, 111, rfl⟩
abbrev main_c_12 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_13 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_v83 : Ref sig .tc := ⟨.hbm, 125, rfl⟩
abbrev main_v84 : Ref sig .tc := ⟨.hbm, 126, rfl⟩
abbrev main_c_14 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_15 : Ref sig .tc := ⟨.hbm, 136, rfl⟩
abbrev main_call7_v0 : Ref sig .tc := ⟨.hbm, 137, rfl⟩
abbrev main_call7_v1 : Ref sig .tc := ⟨.hbm, 138, rfl⟩
abbrev main_call7_v2 : Ref sig .tc := ⟨.hbm, 139, rfl⟩
abbrev main_v93 : Ref sig .tc := ⟨.hbm, 140, rfl⟩
abbrev main_v94 : Ref sig .tc := ⟨.hbm, 141, rfl⟩

abbrev nD : Nat := 1
abbrev τ : Topo := Topo.v7x

variable {F : FTy → Type} [FloatOps F]
-- ==== Proof.Protocol.lean ====
/-
# The exchange's protocol

Four devices: each sends every other device two blocks of its tokens (six slots), computes the expert products of
the six blocks it received, and sends the products back. This module names the cells, the contents, the schedule of
duties and payloads, what each device owes and the levels of the cells.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## Devices, slots, cells -/

set_option backward.proofsInPublic true in
/-- The device `k` places on from `c`. -/
def rot (k : ℕ) (c : Dev nD) : Dev nD := ⟨(c.val + k) % 4, Nat.mod_lt _ (by decide)⟩

/-- How many places on slot `i`'s block goes. -/
def kk (i : ℕ) : ℕ := i / 2 + 1

theorem rot_rot (j k : ℕ) (c : Dev nD) (h : (j + k) % 4 = 0) : rot j (rot k c) = c := by
  apply Fin.ext; have : c.val < 4 := c.isLt; simp only [rot]; omega

theorem rot_inj {k : ℕ} {a b : Dev nD} (h : rot k a = rot k b) : a = b := by
  have := congrArg Fin.val h; simp only [rot] at this
  have h1 : a.val < 4 := a.isLt; have h2 : b.val < 4 := b.isLt
  apply Fin.ext; omega

/-- The permutation of the devices by `k` places. -/
def rotE (k : Fin 5) : Dev nD ≃ Dev nD :=
  ⟨rot k, rot (4 - k), fun c => rot_rot _ _ c (by omega), fun c => rot_rot _ _ c (by omega)⟩

/-- The runtime's barrier semaphore. -/
abbrev barS : Sem sig := (SemArray.scalar (sig.barrier 0 rfl) : Sems sig S_).sem

set_option backward.proofsInPublic true in
/-- The DMA semaphore of slot `i` in array `a`: 0 the blocks' sends, 1 their receives, 2 the products' sends, 3 their
    receives. -/
def dsem (a i : ℕ) : DmaSem sig := ⟨(6 + 6 * a + i) % 30, Nat.mod_lt _ (by decide)⟩

abbrev barCell (c : Dev nD) : GSem nD τ sig := ((c : Thread nD τ), .reg barS)
abbrev dcell (a i : ℕ) (c : Dev nD) : GSem nD τ sig := ((c : Thread nD τ), .dma (dsem a i))

/-- Semaphore number `k` of the protocol: 0 the barrier, `1 + 6 a + i` slot `i`'s in array `a`. -/
def csem (k : Fin 25) : SemLoc sig := if k.val = 0 then .reg barS else .dma (dsem 0 (k.val - 1))
abbrev kcell (ck : Dev nD × Fin 25) : GSem nD τ sig := ((ck.1 : Thread nD τ), csem ck.2)

set_option backward.proofsInPublic true in
/-- The number of slot `i`'s semaphore in array `a`. -/
def cnum (a i : ℕ) : Fin 25 := ⟨(1 + 6 * a + i) % 25, Nat.mod_lt _ (by decide)⟩

theorem csem_zero : csem 0 = .reg barS := if_pos rfl
theorem csem_cnum {a i : ℕ} (ha : a < 4) (hi : i < 6) : csem (cnum a i) = .dma (dsem a i) := by
  unfold csem
  have h : (cnum a i).val = 1 + 6 * a + i := Nat.mod_eq_of_lt (by omega)
  rw [h, if_neg (by omega)]
  congr 1; apply Fin.ext; simp only [dsem]; omega

/-! ## The scratch slots -/

/-- The blocks' slot: the elements whose first coordinate is `i`. -/
def slotX (i : ℕ) : Finset S6x112x256.Idx := Finset.univ.filter fun j => (j 0).val = i
/-- The products' slot. -/
def slotY (i : ℕ) : Finset S6x96x512.Idx := Finset.univ.filter fun j => (j 0).val = i

theorem mem_slotX {i : ℕ} {j : S6x112x256.Idx} : j ∈ slotX i ↔ (j 0).val = i := by simp [slotX]
theorem mem_slotY {i : ℕ} {j : S6x96x512.Idx} : j ∈ slotY i ↔ (j 0).val = i := by simp [slotY]

section Pts
variable (c : Dev nD) (i : ℕ)

def xsP (f : Buf (Elt F) ((c : Thread nD τ).loc cc0_scratch0)) : sProp 𝕄 := ((c : Thread nD τ).loc cc0_scratch0) ↦[slotX i]{fullShare} f
def xrP (f : Buf (Elt F) ((c : Thread nD τ).loc cc0_scratch1)) : sProp 𝕄 := ((c : Thread nD τ).loc cc0_scratch1) ↦[slotX i]{fullShare} f
def ysP (f : Buf (Elt F) ((c : Thread nD τ).loc cc0_scratch2)) : sProp 𝕄 := ((c : Thread nD τ).loc cc0_scratch2) ↦[slotY i]{fullShare} f
def yrP (f : Buf (Elt F) ((c : Thread nD τ).loc cc0_scratch3)) : sProp 𝕄 := ((c : Thread nD τ).loc cc0_scratch3) ↦[slotY i]{fullShare} f

def xsAny : sProp 𝕄 := iprop(∃ f, xsP (F := F) c i f)
def xrAny : sProp 𝕄 := iprop(∃ f, xrP (F := F) c i f)
def ysAny : sProp 𝕄 := iprop(∃ f, ysP (F := F) c i f)
def yrAny : sProp 𝕄 := iprop(∃ f, yrP (F := F) c i f)

end Pts

/-! ## Contents -/

section Contents
variable (c : Dev nD)

abbrev xI : Vec F S512x256 .bf16 := (win0_0.blk (0 : Fin 1)).view.read (Elt F) ((s₀ m ρ).mem ((c : Thread nD τ).loc main_arg0))
abbrev rI : Vec F S256x8 .bf16 := (win0_1.blk (0 : Fin 1)).view.read (Elt F) ((s₀ m ρ).mem ((c : Thread nD τ).loc main_arg1))
abbrev iI : Vec F S512x1 .i32 := (win0_2.blk (0 : Fin 1)).view.read (Elt F) ((s₀ m ρ).mem ((c : Thread nD τ).loc main_arg2))
abbrev eI : Vec F S2x256x512 .bf16 := (win0_3.blk (0 : Fin 1)).view.read (Elt F) ((s₀ m ρ).mem ((c : Thread nD τ).loc main_arg3))
abbrev sI : Vec F S256x512 .bf16 := (win0_4.blk (0 : Fin 1)).view.read (Elt F) ((s₀ m ρ).mem ((c : Thread nD τ).loc main_arg4))

end Contents

/-- The column numbers of the one-hot blocks. -/
abbrev colI : IVec S512x192 32 := iota .tc S512x192 32 [1] iota_S512x192_d1_w32

section Model
variable (d : Dev nD) (x : Vec F S512x256 .bf16) (ix : Vec F S512x1 .i32)

/-- The one-hot block (tokens by places) of the tokens that go `k` devices on from `d`. -/
def PT (k : ℕ) : FVec F S512x192 .bf16 :=
  match k with
  | 1 => k0_pay9 (k0_pay4 ix) (k0_pay5 d)
  | 2 => k0_pay15 (k0_pay6 (k0_pay4 ix) (k0_pay5 d)) (k0_pay7 (k0_pay4 ix) (k0_pay5 d)) colI
  | _ => k0_pay21 (k0_pay6 (k0_pay4 ix) (k0_pay5 d)) (k0_pay7 (k0_pay4 ix) (k0_pay5 d)) colI

/-- The bits (which of its group's two experts) of those tokens, in a row over the places. -/
def brow (k : ℕ) : FVec F S1x192 .bf16 :=
  match k with
  | 1 => k0_pay10 (k0_pay3 ix) (k0_pay4 ix) (k0_pay5 d)
  | 2 => k0_pay16 (k0_pay3 ix) (k0_pay6 (k0_pay4 ix) (k0_pay5 d)) (k0_pay7 (k0_pay4 ix) (k0_pay5 d)) colI
  | _ => k0_pay22 (k0_pay3 ix) (k0_pay6 (k0_pay4 ix) (k0_pay5 d)) (k0_pay7 (k0_pay4 ix) (k0_pay5 d)) colI

/-- The first half of the places. -/
def halfX0 (pt : FVec F S512x192 .bf16) : FVec F S1x96x256 .bf16 :=
  shapeCast S1x96x256 (truncf .bf16 (matmul dot_S512x96_S512x256_S96x256_0_0_1_1_n_n none
    (extractStridedSlice S512x96 ![0, 0] pt slices_S512x192_o0_0_S512x96) (k0_pay8 x) (constant S96x256 .f32 0x00000000#32)) bitsLt_bf16_f32)
    shapeCasts_S96x256_S1x96x256

/-- Slot `i`'s block of tokens. -/
def XB (i : ℕ) : FVec F S1x96x256 .bf16 :=
  if i % 2 = 0 then halfX0 x (PT d ix (kk i)) else k0_pay13 (k0_pay8 x) (PT d ix (kk i))

/-- The row stored under an even slot's block: the bits, then whatever `t` held. -/
def row0 (b : FVec F S1x192 .bf16) (t : Vec F S1x1x32 .bf16) : FVec F S1x1x128 .bf16 :=
  shapeCast S1x1x128 (concatenate S1x128 1 [⟨S1x96, extractStridedSlice S1x96 ![0, 0] b slices_S1x192_o0_0_S1x96⟩,
    ⟨S1x32, shapeCast S1x32 t shapeCasts_S1x1x32_S1x32⟩] concatenates_S1x96_S1x32_S1x128_d1) shapeCasts_S1x128_S1x1x128

/-- The row stored under slot `i`'s block. -/
def rowB (i : ℕ) (t : Vec F S1x1x32 .bf16) : FVec F S1x1x128 .bf16 :=
  if i % 2 = 0 then row0 (brow d ix (kk i)) t else k0_pay14 (brow d ix (kk i)) t

/-- The first 96 lanes of a row of 128. -/
abbrev r96 : Rect S1x1x128 := Rect.unit (s := S1x1x128) ![0, 0, 0] S1x1x96.size (by intro a; fin_cases a <;> decide)

/-- The 96 bits under slot `i`'s block. -/
def BB (i : ℕ) : Vec F S1x1x96 .bf16 := fun j => rowB d ix i (constant S1x1x32 .bf16 0) (r96.emb j)

end Model

/-- The products of a block of tokens `xb` with bits `bb`, with a device's two experts `e`. -/
def yOf (e : Vec F S2x256x512 .bf16) (xb : Vec F S1x96x256 .bf16) (bb : Vec F S1x1x96 .bf16) : FVec F S1x96x512 .bf16 :=
  k0_pay31 (k0_pay28 e) k0_pay30 xb bb

section ModelAt
variable (c : Dev nD)

/-- What device `c` puts in slot `i`. -/
abbrev XS (i : ℕ) : FVec F S1x96x256 .bf16 := XB c (xI m ρ c) (iI m ρ c) i
abbrev BR (i : ℕ) : Vec F S1x1x96 .bf16 := BB c (iI m ρ c) i
/-- What device `c` makes of the block it received in slot `i`. -/
def YS (i : ℕ) : FVec F S1x96x512 .bf16 :=
  yOf (eI m ρ c) (XS m ρ (rot (4 - kk i) c) i) (BR m ρ (rot (4 - kk i) c) i)

/-- What device `c` adds up: its own share, then the six returned blocks in their order. -/
def outOf (x : Vec F S512x256 .bf16) (r : Vec F S256x8 .bf16) (ix : Vec F S512x1 .i32) (e : Vec F S2x256x512 .bf16) (s : Vec F S256x512 .bf16)
    (Y : ℕ → Vec F S1x96x512 .bf16) : FVec F S512x512 .f32 :=
  k0_pay54 (k0_pay27 (k0_pay1 ix) (k0_pay8 x) r)
    (k0_pay51 (PT c ix 3) (k0_pay27 (k0_pay1 ix) (k0_pay8 x) r)
      (k0_pay48 (PT c ix 2) (k0_pay27 (k0_pay1 ix) (k0_pay8 x) r)
        (k0_pay45 (PT c ix 1) (k0_pay27 (k0_pay1 ix) (k0_pay8 x) r)
          (k0_pay29 (k0_pay1 ix) (k0_pay3 ix) (k0_pay6 (k0_pay4 ix) (k0_pay5 c)) (k0_pay8 x) r e s) (Y 0))
        (k0_pay46 (PT c ix 3)) (k0_pay47 (Y 4)) (Y 2))
      (k0_pay49 (PT c ix 1)) (k0_pay50 (Y 1)) (Y 5))
    (k0_pay52 (PT c ix 2)) (k0_pay53 (Y 3))

/-- Device `c`'s result. -/
def outAt : FVec F S512x512 .f32 :=
  outOf c (xI m ρ c) (rI m ρ c) (iI m ρ c) (eI m ρ c) (sI m ρ c) (fun i => YS m ρ (rot (kk i) c) i)

end ModelAt

/-! ## What the slots hold -/

section Holds
variable (i : ℕ) (hi : i < 6)

include hi in
theorem inbA : ∀ a, (![i, 0, 0] : Fin 3 → ℕ) a + S1x96x256.size a ≤ S6x112x256.size a := by
  intro a; fin_cases a <;> simp [S1x96x256, S6x112x256, Shape.size] <;> omega
include hi in
theorem inbB : ∀ a, (![i, 96, 0] : Fin 3 → ℕ) a + S1x1x96.size a ≤ S6x112x256.size a := by
  intro a; fin_cases a <;> simp [S1x1x96, S6x112x256, Shape.size] <;> omega
include hi in
theorem inbY : ∀ a, (![i, 0, 0] : Fin 3 → ℕ) a + S1x96x512.size a ≤ S6x96x512.size a := by
  intro a; fin_cases a <;> simp [S1x96x512, S6x96x512, Shape.size] <;> omega

/-- Slot `i`'s 96 rows of tokens, and the 96 bits under them; slot `i` of the products. -/
abbrev rA : Rect S6x112x256 := Rect.unit (s := S6x112x256) ![i, 0, 0] S1x96x256.size (inbA i hi)
abbrev rB : Rect S6x112x256 := Rect.unit (s := S6x112x256) ![i, 96, 0] S1x1x96.size (inbB i hi)
abbrev rY : Rect S6x96x512 := Rect.unit (s := S6x96x512) ![i, 0, 0] S1x96x512.size (inbY i hi)

end Holds

/-- Slot `i` holds the block `w` and the bits `b`. -/
def holdsX (i : ℕ) (w : Vec F S1x96x256 .bf16) (b : Vec F S1x1x96 .bf16) (f : S6x112x256.Idx → Elt F .bf16) : Prop :=
  ∀ hi : i < 6, (∀ j, f ((rA i hi).emb j) = w j) ∧ ∀ j, f ((rB i hi).emb j) = b j
/-- Slot `i` holds the products `w`. -/
def holdsY (i : ℕ) (w : Vec F S1x96x512 .bf16) (f : S6x96x512.Idx → Elt F .bf16) : Prop :=
  ∀ hi : i < 6, ∀ j, f ((rY i hi).emb j) = w j

/-! ## The schedule -/

/-- The credit of a block's transfer, and of a products'. -/
abbrev NX : ℕ := (((Memref.whole cc0_scratch1 : Memref sig .tc .vmem S6x112x256 .bf16).slice (Rect.unit (s := S6x112x256) ![0, 0, 0] S1x112x256.size inb_S6x112x256_S1x112x256_0_0_0) (fun _ => rfl)).squeeze S112x256 squeezes_S1x112x256_S112x256).view.dmaCredit
abbrev NY : ℕ := (((Memref.whole cc0_scratch3 : Memref sig .tc .vmem S6x96x512 .bf16).slice (Rect.unit (s := S6x96x512) ![0, 0, 0] S1x96x512.size inb_S6x96x512_S1x96x512_0_0_0) (fun _ => rfl)).squeeze S96x512 squeezes_S1x96x512_S96x512).view.dmaCredit
theorem NX_pos : 0 < NX := View.dmaCredit_pos _ (by decide)
theorem NY_pos : 0 < NY := View.dmaCredit_pos _ (by decide)

/-- What device `p` hands to the device `c` whose barrier it signals, `c = rot k p`: its landing slots of the blocks `c`
    sends it, and of the products `c` returns it. -/
def barPay (p : Dev nD) (k : ℕ) : sProp 𝕄 :=
  iprop((xrAny (F := F) p (2 * (3 - k)) ∗ xrAny (F := F) p (2 * (3 - k) + 1)) ∗ yrAny (F := F) p (2 * (k - 1)) ∗ yrAny (F := F) p (2 * (k - 1) + 1))

def xrFull (c : Dev nD) (i : ℕ) : sProp 𝕄 :=
  iprop(∃ f, ⌜holdsX i (XS m ρ (rot (4 - kk i) c) i) (BR m ρ (rot (4 - kk i) c) i) f⌝ ∗ xrP (F := F) c i f)
def yrFull (c : Dev nD) (i : ℕ) : sProp 𝕄 :=
  iprop(∃ f, ⌜holdsY i (YS m ρ (rot (kk i) c) i) f⌝ ∗ yrP (F := F) c i f)

/-- The payload of the DMA cell of semaphore `n`. -/
def dmaPay (c : Dev nD) (n : ℕ) : sProp 𝕄 :=
  if n < 12 then xsAny (F := F) c (n - 6) else if n < 18 then xrFull m ρ c (n - 12)
  else if n < 24 then ysAny (F := F) c (n - 18) else yrFull m ρ c (n - 24)

/-- One round, round 0: a barrier cell has three duties of one unit, named by how far off the payer is; a slot's cell one
    duty of its block's credit. -/
def sched : Rounds.Schedule (GSem nD τ sig) (Fin 4) 𝕄 where
  duties g r := if r = 0 ∧ g.1.2 = .tc then (match g.2 with
    | .reg s => if s = barS then {1, 2, 3} else ∅
    | .dma q => if 6 ≤ q.val then {0} else ∅) else ∅
  unitless _ := False
  amount g _ _ := match g.2 with
    | .reg _ => 1
    | .dma q => if q.val < 18 then NX else NY
  payload g _ d := match g.2 with
    | .reg _ => barPay (F := F) (rot (4 - d.val) g.1.1) d.val
    | .dma q => dmaPay m ρ g.1.1 q.val
  amount_pos g _ _ _ := by
    cases g.2 with
    | reg _ => exact Nat.one_pos
    | dma q => dsimp only; split; exacts [NX_pos, NY_pos]

omit [FloatOps F] in
instance xsP_storable (c : Dev nD) (i : ℕ) (f) : BI.Storable (upEmb : UEmb _ 𝕄) (xsP (F := F) c i f) := by unfold xsP; infer_instance
omit [FloatOps F] in
instance xrP_storable (c : Dev nD) (i : ℕ) (f) : BI.Storable (upEmb : UEmb _ 𝕄) (xrP (F := F) c i f) := by unfold xrP; infer_instance
omit [FloatOps F] in
instance ysP_storable (c : Dev nD) (i : ℕ) (f) : BI.Storable (upEmb : UEmb _ 𝕄) (ysP (F := F) c i f) := by unfold ysP; infer_instance
omit [FloatOps F] in
instance yrP_storable (c : Dev nD) (i : ℕ) (f) : BI.Storable (upEmb : UEmb _ 𝕄) (yrP (F := F) c i f) := by unfold yrP; infer_instance

instance sched_payload_storable (g : GSem nD τ sig) (r : ℕ) (d : Fin 4) :
    BI.Storable (upEmb : UEmb _ 𝕄) ((sched (F := F) m ρ).payload g r d) := by
  obtain ⟨t, s⟩ := g
  cases s with
  | reg _ => dsimp only [sched]; unfold barPay xrAny yrAny; infer_instance
  | dma q => dsimp only [sched]; unfold dmaPay xsAny ysAny xrFull yrFull; (repeat' split) <;> infer_instance

section Sched
variable (c : Dev nD)

theorem duties_bar : (sched (F := F) m ρ).duties (barCell c) 0 = {1, 2, 3} := by
  dsimp only [sched]; rw [if_pos ⟨rfl, rfl⟩]; exact if_pos rfl
theorem duties_d (a i : ℕ) (ha : a < 4) (hi : i < 6) : (sched (F := F) m ρ).duties (dcell a i c) 0 = {0} := by
  dsimp only [sched]; rw [if_pos ⟨rfl, rfl⟩]; exact if_pos (by simp only [dsem]; omega)
theorem duties_later (g : GSem nD τ sig) : ∀ r, 1 ≤ r → (sched (F := F) m ρ).duties g r = ∅ :=
  fun r hr => by dsimp only [sched]; exact if_neg fun h => by omega

theorem amount_bar (d : Fin 4) : (sched (F := F) m ρ).amount (barCell c) 0 d = 1 := rfl
theorem amount_dx (a i : ℕ) (ha : a < 2) (hi : i < 6) (d : Fin 4) : (sched (F := F) m ρ).amount (dcell a i c) 0 d = NX := by
  dsimp only [sched]; exact if_pos (by simp only [dsem]; omega)
theorem amount_dy (a i : ℕ) (ha : 2 ≤ a) (ha' : a < 4) (hi : i < 6) (d : Fin 4) : (sched (F := F) m ρ).amount (dcell a i c) 0 d = NY := by
  dsimp only [sched]; exact if_neg (by simp only [dsem]; omega)

theorem expect_bar : (sched (F := F) m ρ).expect (barCell c) 0 = 3 := by
  unfold Schedule.expect Schedule.amountOf; rw [duties_bar]; rfl
theorem expect_dx (a i : ℕ) (ha : a < 2) (hi : i < 6) : (sched (F := F) m ρ).expect (dcell a i c) 0 = NX := by
  unfold Schedule.expect Schedule.amountOf; rw [duties_d m ρ c a i (by omega) hi, Finset.sum_singleton, amount_dx m ρ c a i ha hi]
theorem expect_dy (a i : ℕ) (ha : 2 ≤ a) (ha' : a < 4) (hi : i < 6) : (sched (F := F) m ρ).expect (dcell a i c) 0 = NY := by
  unfold Schedule.expect Schedule.amountOf; rw [duties_d m ρ c a i ha' hi, Finset.sum_singleton, amount_dy m ρ c a i ha ha' hi]

theorem payload_bar (d : Fin 4) : (sched (F := F) m ρ).payload (barCell c) 0 d = barPay (F := F) (rot (4 - d.val) c) d.val := rfl
theorem payload_s1 (i : ℕ) (hi : i < 6) (d : Fin 4) : (sched (F := F) m ρ).payload (dcell 0 i c) 0 d = xsAny (F := F) c i := by
  have h : (dsem 0 i).val = 6 + i := by simp only [dsem]; omega
  dsimp only [sched]; unfold dmaPay; rw [h, if_pos (by omega)]; congr 1; omega
theorem payload_r1 (i : ℕ) (hi : i < 6) (d : Fin 4) : (sched (F := F) m ρ).payload (dcell 1 i c) 0 d = xrFull m ρ c i := by
  have h : (dsem 1 i).val = 12 + i := by simp only [dsem]; omega
  dsimp only [sched]; unfold dmaPay; rw [h, if_neg (by omega), if_pos (by omega), Nat.add_sub_cancel_left]
theorem payload_s2 (i : ℕ) (hi : i < 6) (d : Fin 4) : (sched (F := F) m ρ).payload (dcell 2 i c) 0 d = ysAny (F := F) c i := by
  have h : (dsem 2 i).val = 18 + i := by simp only [dsem]; omega
  dsimp only [sched]; unfold dmaPay; rw [h, if_neg (by omega), if_neg (by omega), if_pos (by omega), Nat.add_sub_cancel_left]
theorem payload_r2 (i : ℕ) (hi : i < 6) (d : Fin 4) : (sched (F := F) m ρ).payload (dcell 3 i c) 0 d = yrFull m ρ c i := by
  have h : (dsem 3 i).val = 24 + i := by simp only [dsem]; omega
  dsimp only [sched]; unfold dmaPay; rw [h, if_neg (by omega), if_neg (by omega), if_neg (by omega), Nat.add_sub_cancel_left]

/-- The rest of the barrier cell's round: what the three peers hand over. -/
theorem rest_bar : bigSep ((sched (F := F) m ρ).duties (barCell c) 0 \ ∅) (fun d => (sched (F := F) m ρ).payload (barCell c) 0 d)
    = iprop(barPay (F := F) (rot 3 c) 1 ∗ barPay (F := F) (rot 2 c) 2 ∗ barPay (F := F) (rot 1 c) 3) := by
  rw [Finset.sdiff_empty, duties_bar, bigSep_eq_bigSepL_of_eq [1, 2, 3] (by decide) (by decide), bigSepL_cons_cons, bigSepL_cons_cons, bigSepL_singleton]
  rfl
theorem rest_d (a i : ℕ) (ha : a < 4) (hi : i < 6) :
    bigSep ((sched (F := F) m ρ).duties (dcell a i c) 0 \ ∅) (fun d => (sched (F := F) m ρ).payload (dcell a i c) 0 d)
      = (sched (F := F) m ρ).payload (dcell a i c) 0 0 := by
  rw [Finset.sdiff_empty, duties_d m ρ c a i ha hi, bigSep_singleton]

end Sched

/-! ## What each device owes; the levels -/

/-- A debt: how many places on the cell's device is, the cell's semaphore, the amount. -/
abbrev Debt : Type := ℕ × SemLoc sig × ℕ

/-- What device `c` owes by a list of debts, the first one outermost. -/
def oweL (c : Dev nD) (l : List Debt) : CellTallies nD τ sig Unit :=
  l.foldr (fun x acc => acc + tallyAt (((rot x.1 c : Dev nD) : Thread nD τ), x.2.1) () x.2.2) 0

theorem oweL_cons (c : Dev nD) (x : Debt) (l : List Debt) :
    oweL c (x :: l) = oweL c l + tallyAt (((rot x.1 c : Dev nD) : Thread nD τ), x.2.1) () x.2.2 := rfl
theorem oweL_nil (c : Dev nD) : oweL c [] = 0 := rfl

abbrev dB (k : ℕ) : Debt := (k, .reg barS, 1)
abbrev dX (i : ℕ) : Debt := (kk i, .dma (dsem 1 i), NX)
abbrev dY (i : ℕ) : Debt := (4 - kk i, .dma (dsem 3 i), NY)

/-- All of a device's debts in the order it pays them. -/
abbrev allDebts : List Debt := [dB 1, dB 2, dB 3, dX 0, dX 1, dX 2, dX 3, dX 4, dX 5, dY 0, dY 4, dY 2, dY 1, dY 5, dY 3]

def O₀ (c : Dev nD) : CellTallies nD τ sig Unit := oweL c allDebts

def L (g : GSem nD τ sig) : Finset Unit := if g.1.2 = .tc then {()} else ∅
/-- The levels: the barrier at 1, the blocks' receives at 2, the products' at 3, all others at 0. -/
def lvS (s : SemLoc sig) : ℕ := match s with
  | .reg _ => 1
  | .dma q => if q.val < 12 then 0 else if q.val < 18 then 2 else if q.val < 24 then 0 else 3
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem oweL_pos {c : Dev nD} {l : List Debt} {g : GSem nD τ sig} {u : Unit} (h : 0 < oweL c l g u) :
    ∃ x ∈ l, g = (((rot x.1 c : Dev nD) : Thread nD τ), x.2.1) := by
  induction l with
  | nil => exact absurd h (Nat.lt_irrefl 0)
  | cons x l ih =>
    rw [oweL_cons, Pi.add_apply, Finsupp.add_apply, tallyAt_apply] at h
    by_cases hx : g = (((rot x.1 c : Dev nD) : Thread nD τ), x.2.1) ∧ u = ()
    · exact ⟨x, List.mem_cons_self, hx.1⟩
    · rw [if_neg hx, Nat.add_zero] at h
      obtain ⟨y, hy, hg⟩ := ih h
      exact ⟨y, List.mem_cons_of_mem _ hy, hg⟩

/-- A device may wait on a cell whose level is below those of all the cells it still owes. -/
theorem mayWait (c : Dev nD) (sm : SemLoc sig) (l : List Debt) (h : ∀ x ∈ l, lvS sm < lvS x.2.1) :
    (levAts L lv : sProp 𝕄) ⊢ MayWait (c : Thread nD τ) sm () (oweL c l) :=
  MayOwe.of_cut (L := L) (lev := lv) (lvS sm) (fun p hp => by rw [Finset.mem_singleton.mp hp, L_tc]; exact Finset.mem_singleton_self _)
    (fun g u hg => by obtain ⟨x, -, rfl⟩ := oweL_pos hg; rw [L_tc]; exact Finset.mem_singleton_self _)
    (fun p hp => by rw [Finset.mem_singleton.mp hp]; exact le_refl _)
    (fun g u hg => by obtain ⟨x, hx, rfl⟩ := oweL_pos hg; exact h x hx)

end Cert.Moe

end
-- ==== Proof.Steps.lean ====
/-
# The steps of a slot

A slot's life on one device: its block is written and sent (`step_disp`), the block received in it is served and the
products sent back (`step_serve`), the products returned to it are collected (`step_coll`), and the two sends are
waited for (`step_fin1`, `step_fin2`). Each step is stated once for every slot.
-/
module

public import proofs.«01_k».proof.Proof.Protocol
public import Idealize.ShloMosaic.Lib.Pipeline.Value

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Elements of the slots -/

theorem unit_slotX {i : ℕ} {off size : Fin 3 → ℕ} {inb} (h : off 0 = i) (h1 : size 0 = 1) :
    (Rect.unit (s := S6x112x256) off size inb).set ⊆ slotX i := fun j hj => by
  have := Rect.mem_set_unit.mp hj 0
  rw [h, h1] at this; rw [mem_slotX]; omega
theorem unit_slotY {i : ℕ} {off size : Fin 3 → ℕ} {inb} (h : off 0 = i) (h1 : size 0 = 1) :
    (Rect.unit (s := S6x96x512) off size inb).set ⊆ slotY i := fun j hj => by
  have := Rect.mem_set_unit.mp hj 0
  rw [h, h1] at this; rw [mem_slotY]; omega

theorem slotX_unit {i : ℕ} {inb} : (Rect.unit (s := S6x112x256) ![i, 0, 0] S1x112x256.size inb).set = slotX i := by
  refine Finset.Subset.antisymm (unit_slotX rfl rfl) fun j hj => ?_
  rw [mem_slotX] at hj
  refine Rect.mem_set_unit.mpr fun a => ?_
  have := (j a).isLt
  fin_cases a
  · exact ⟨hj.ge, by show (j 0).val < i + 1; omega⟩
  · exact ⟨Nat.zero_le _, by show (j 1).val < 0 + 112; rw [Nat.zero_add]; exact this⟩
  · exact ⟨Nat.zero_le _, by show (j 2).val < 0 + 256; rw [Nat.zero_add]; exact this⟩
theorem slotY_unit {i : ℕ} {inb} : (Rect.unit (s := S6x96x512) ![i, 0, 0] S1x96x512.size inb).set = slotY i := by
  refine Finset.Subset.antisymm (unit_slotY rfl rfl) fun j hj => ?_
  rw [mem_slotY] at hj
  refine Rect.mem_set_unit.mpr fun a => ?_
  have := (j a).isLt
  fin_cases a
  · exact ⟨hj.ge, by show (j 0).val < i + 1; omega⟩
  · exact ⟨Nat.zero_le _, by show (j 1).val < 0 + 96; rw [Nat.zero_add]; exact this⟩
  · exact ⟨Nat.zero_le _, by show (j 2).val < 0 + 512; rw [Nat.zero_add]; exact this⟩

abbrev xsM : Memref sig .tc .vmem S6x112x256 .bf16 := Memref.whole cc0_scratch0
abbrev xrM : Memref sig .tc .vmem S6x112x256 .bf16 := Memref.whole cc0_scratch1
abbrev ysM : Memref sig .tc .vmem S6x96x512 .bf16 := Memref.whole cc0_scratch2
abbrev yrM : Memref sig .tc .vmem S6x96x512 .bf16 := Memref.whole cc0_scratch3

/-- A block's slot of a memref, and a products' slot, as the program names them. -/
abbrev vX (M : Memref sig .tc .vmem S6x112x256 .bf16) (i : ℕ) (inb : ∀ a, (![i, 0, 0] : Fin 3 → ℕ) a + S1x112x256.size a ≤ S6x112x256.size a) :
    Memref sig .tc .vmem S112x256 .bf16 :=
  (M.slice (Rect.unit (s := S6x112x256) ![i, 0, 0] S1x112x256.size inb) (fun _ => rfl)).squeeze S112x256 squeezes_S1x112x256_S112x256
abbrev vY (M : Memref sig .tc .vmem S6x96x512 .bf16) (i : ℕ) (inb : ∀ a, (![i, 0, 0] : Fin 3 → ℕ) a + S1x96x512.size a ≤ S6x96x512.size a) :
    Memref sig .tc .vmem S96x512 .bf16 :=
  (M.slice (Rect.unit (s := S6x96x512) ![i, 0, 0] S1x96x512.size inb) (fun _ => rfl)).squeeze S96x512 squeezes_S1x96x512_S96x512

theorem set_xs {i : ℕ} {inb} : (vX xsM i inb).view.set = slotX i := by
  show (((View.whole cc0_scratch0).slice _).reshape _ _).set = _
  rw [View.set_reshape, View.set_slice_whole]; exact slotX_unit
theorem set_xr {i : ℕ} {inb} : (vX xrM i inb).view.set = slotX i := by
  show (((View.whole cc0_scratch1).slice _).reshape _ _).set = _
  rw [View.set_reshape, View.set_slice_whole]; exact slotX_unit
theorem set_ys {i : ℕ} {inb} : (vY ysM i inb).view.set = slotY i := by
  show (((View.whole cc0_scratch2).slice _).reshape _ _).set = _
  rw [View.set_reshape, View.set_slice_whole]; exact slotY_unit
theorem set_yr {i : ℕ} {inb} : (vY yrM i inb).view.set = slotY i := by
  show (((View.whole cc0_scratch3).slice _).reshape _ _).set = _
  rw [View.set_reshape, View.set_slice_whole]; exact slotY_unit

/-- A transfer between slots of the two block scratches copies the slot. -/
theorem sent_x {i : ℕ} {inb inb'} (fd fs : S6x112x256.Idx → Elt F .bf16) {j : S6x112x256.Idx} (hj : j ∈ slotX i) :
    (vX xrM i inb).view.write (Elt F) fd ((vX xsM i inb').view.read (Elt F) fs) Finset.univ j = fs j := by
  have h := congrFun (View.write_read_eq_piecewise (Val := Elt F) (v := (vX xrM i inb).view) fd fs Finset.univ) j
  rw [show (vX xrM i inb).view.setOn Finset.univ = slotX i from set_xr, Finset.piecewise_eq_of_mem _ _ _ hj] at h
  exact h
theorem sent_y {i : ℕ} {inb inb'} (fd fs : S6x96x512.Idx → Elt F .bf16) {j : S6x96x512.Idx} (hj : j ∈ slotY i) :
    (vY yrM i inb).view.write (Elt F) fd ((vY ysM i inb').view.read (Elt F) fs) Finset.univ j = fs j := by
  have h := congrFun (View.write_read_eq_piecewise (Val := Elt F) (v := (vY yrM i inb).view) fd fs Finset.univ) j
  rw [show (vY yrM i inb).view.setOn Finset.univ = slotY i from set_yr, Finset.piecewise_eq_of_mem _ _ _ hj] at h
  exact h

/-- `holdsX` reads the slot only. -/
theorem holdsX_congr {i : ℕ} {w : Vec F S1x96x256 .bf16} {b : Vec F S1x1x96 .bf16} {f g : S6x112x256.Idx → Elt F .bf16}
    (h : ∀ j ∈ slotX i, g j = f j) (hf : holdsX i w b f) : holdsX i w b g := fun hi =>
  ⟨fun j => by
      rw [h _ (unit_slotX rfl rfl (Rect.map_emb_univ _ ▸ Finset.mem_map_of_mem _ (Finset.mem_univ j)))]; exact (hf hi).1 j,
    fun j => by
      rw [h _ (unit_slotX rfl rfl (Rect.map_emb_univ _ ▸ Finset.mem_map_of_mem _ (Finset.mem_univ j)))]; exact (hf hi).2 j⟩
theorem holdsY_congr {i : ℕ} {w : Vec F S1x96x512 .bf16} {f g : S6x96x512.Idx → Elt F .bf16}
    (h : ∀ j ∈ slotY i, g j = f j) (hf : holdsY i w f) : holdsY i w g := fun hi j => by
  rw [h _ (unit_slotY rfl rfl (Rect.map_emb_univ _ ▸ Finset.mem_map_of_mem _ (Finset.mem_univ j)))]; exact hf hi j

/-- The two stores of a slot's filling leave the block and the bits in it. -/
theorem filled {i : ℕ} {hA hD} (f : S6x112x256.Idx → Elt F .bf16) (w : Vec F S1x96x256 .bf16) (b : Vec F S1x1x96 .bf16)
    (old : Vec F S1x2x128 .bf16) (v : Vec F S1x1x128 .bf16) (hv : ∀ j, v (r96.emb j) = b j) :
    holdsX i w b ((xsM.access (Rect.unit (s := S6x112x256) ![i, 96, 0] S1x2x128.size hD)).write (Elt F)
      ((xsM.access (Rect.unit (s := S6x112x256) ![i, 0, 0] S1x96x256.size hA)).write (Elt F) f w Finset.univ)
      (updateSlice old v ![0, 0, 0] slices_S1x2x128_S1x1x128_0_0_0) Finset.univ) := fun hi => by
  constructor
  · intro j
    rw [View.write_of_not_mem]
    · exact View.write_emb_of_mem (v := xsM.access (Rect.unit (s := S6x112x256) ![i, 0, 0] S1x96x256.size hA)) f w (Finset.mem_univ j)
    · rw [View.setOn_univ, show (xsM.access (Rect.unit (s := S6x112x256) ![i, 96, 0] S1x2x128.size hD)).set = _ from View.set_slice_whole cc0_scratch0 _]
      intro h
      have h1 := (Rect.mem_set_unit.mp h 1).1
      have h2 : (((rA i hi).emb j) 1).val = 0 + 1 * (j 1).val := rfl
      have h3 : (j 1).val < 96 := (j 1).isLt
      have h4 : 96 ≤ (((rA i hi).emb j) 1).val := h1
      omega
  · intro j
    have hj0 : (j 0).val < 1 := (j 0).isLt
    have hj1 : (j 1).val < 1 := (j 1).isLt
    have hj2 : (j 2).val < 96 := (j 2).isLt
    let p : S1x2x128.Idx := fun a => match a with
      | ⟨0, _⟩ => ⟨0, by show 0 < 1; decide⟩ | ⟨1, _⟩ => ⟨0, by show 0 < 2; decide⟩ | ⟨2, _⟩ => ⟨(j 2).val, by show (j 2).val < 128; omega⟩
    have hp : (rB i hi).emb j = (xsM.access (Rect.unit (s := S6x112x256) ![i, 96, 0] S1x2x128.size hD)).emb p := by
      funext a; apply Fin.ext
      fin_cases a
      · show i + 1 * (j 0).val = i + 1 * 0; omega
      · show 96 + 1 * (j 1).val = 96 + 1 * 0; omega
      · rfl
    rw [hp, View.write_emb_of_mem _ _ (Finset.mem_univ p)]
    show updateSlice old v ![0, 0, 0] slices_S1x2x128_S1x1x128_0_0_0 p = b j
    rw [← hv j]
    unfold updateSlice
    rw [dif_pos (fun a => by
      fin_cases a
      · exact ⟨le_refl 0, by show 0 < 0 + 1; decide⟩
      · exact ⟨le_refl 0, by show 0 < 0 + 1; decide⟩
      · exact ⟨Nat.zero_le _, by show (j 2).val < 0 + 128; omega⟩)]
    congr 1
    funext a; apply Fin.ext
    fin_cases a
    · show 0 - 0 = 0 + 1 * (j 0).val; omega
    · show 0 - 0 = 0 + 1 * (j 1).val; omega
    · show (j 2).val - 0 = 0 + 1 * (j 2).val; omega

/-- A row of 96 values followed by 32 others, read at one of its first 96 lanes. -/
theorem row_read (x : S1x96.Idx → Elt F .bf16) (y : S1x32.Idx → Elt F .bf16) (j : S1x1x96.Idx) :
    shapeCast S1x1x128 (concatenate S1x128 1 [⟨S1x96, x⟩, ⟨S1x32, y⟩] concatenates_S1x96_S1x32_S1x128_d1) shapeCasts_S1x128_S1x1x128 (r96.emb j)
      = x (fun a => j a.succ) := by
  refine (shapeCast_addUnit_apply (n := 2) ![1, 128] _ shapeCasts_S1x128_S1x1x128 (r96.emb j)).trans ?_
  refine concatenate_pair_apply_left (t := S1x128) (s₁ := S1x96) (s₂ := S1x32) 1 x y concatenates_S1x96_S1x32_S1x128_d1 _ rfl (fun a => j a.succ) fun b => ?_
  fin_cases b
  · show (j 1).val = 0 + 1 * (j 1).val; omega
  · show (j 2).val = 0 + 1 * (j 2).val; omega

/-- The bits of slot `i`, as they lie in the row of the places. -/
theorem row_bits (d : Dev nD) (ix : Vec F S512x1 .i32) (i : ℕ) (t : Vec F S1x1x32 .bf16) (j : S1x1x96.Idx) :
    rowB d ix i t (r96.emb j) = (if i % 2 = 0 then extractStridedSlice S1x96 ![0, 0] (brow d ix (kk i)) slices_S1x192_o0_0_S1x96
      else extractStridedSlice S1x96 ![0, 96] (brow d ix (kk i)) slices_S1x192_o0_96_S1x96) (fun a => j a.succ) := by
  unfold rowB
  split
  · exact row_read _ _ j
  · exact row_read _ _ j

/-- What a row holds in its first 96 lanes is the bits, whatever the last 32 held. -/
theorem rowB_bits (d : Dev nD) (ix : Vec F S512x1 .i32) (i : ℕ) (t : Vec F S1x1x32 .bf16) (j : S1x1x96.Idx) :
    rowB d ix i t (r96.emb j) = BB d ix i j := by
  unfold BB; rw [row_bits, row_bits]

/-! ## The records -/

/-- The cells' invariants at the names `K`, and that every cell has reached round 0. -/
def records (K : Dev nD × Fin 25 → ℕ) : sProp 𝕄 :=
  iprop((bigSep Finset.univ fun ck : Dev nD × Fin 25 => cellInv ER (sched m ρ) (K ck) (kcell ck))
    ∗ bigSep Finset.univ fun ck : Dev nD × Fin 25 => reached ER (kcell ck) 0)

instance records_persistent (K : Dev nD × Fin 25 → ℕ) : BI.Persistent (records m ρ K) := by unfold records; infer_instance

variable (K : Dev nD × Fin 25 → ℕ)

theorem inv_at (ck : Dev nD × Fin 25) : records m ρ K ⊢ cellInv ER (sched m ρ) (K ck) (kcell ck) := by
  unfold records; iintro ⟨H, -⟩
  iapply (show (bigSep Finset.univ fun ck : Dev nD × Fin 25 => (cellInv ER (sched m ρ) (K ck) (kcell ck) : sProp 𝕄)) ⊢ _ from bigSep_elim (Finset.mem_univ ck)); iexact H
theorem reached_at (ck : Dev nD × Fin 25) : records m ρ K ⊢ reached ER (kcell ck) 0 := by
  unfold records; iintro ⟨-, H⟩
  iapply (show (bigSep Finset.univ fun ck : Dev nD × Fin 25 => (reached ER (kcell ck) 0 : sProp 𝕄)) ⊢ _ from bigSep_elim (Finset.mem_univ ck)); iexact H

theorem inv_bar (c : Dev nD) : records m ρ K ⊢ cellInv ER (sched m ρ) (K (c, 0)) (barCell c) := inv_at m ρ K (c, 0)
theorem reached_bar (c : Dev nD) : records m ρ K ⊢ reached ER (barCell c) 0 := reached_at m ρ K (c, 0)
theorem inv_d (c : Dev nD) (a i : ℕ) (ha : a < 4) (hi : i < 6) : records m ρ K ⊢ cellInv ER (sched m ρ) (K (c, cnum a i)) (dcell a i c) := by
  have h := inv_at m ρ K (c, cnum a i)
  unfold kcell at h; rw [csem_cnum ha hi] at h; exact h
theorem reached_d (c : Dev nD) (a i : ℕ) (ha : a < 4) (hi : i < 6) : records m ρ K ⊢ reached ER (dcell a i c) 0 := by
  have h := reached_at m ρ K (c, cnum a i)
  unfold kcell at h; rw [csem_cnum ha hi] at h; exact h

/-! ## The states of a slot -/

section States
variable (c : Dev nD) (i : ℕ)

/-- At the start: the own scratch slots, the peers' landing slots, the positions, the tokens, the credit for what will be received. -/
def slotA : sProp 𝕄 :=
  iprop(xsAny (F := F) c i ∗ xrAny (F := F) (rot (kk i) c) i
    ∗ dutyTok ER (dcell 0 i c) 0 0 ∗ dutyTok ER (dcell 1 i (rot (kk i) c)) 0 0
    ∗ atPos ER (dcell 0 i c) 0 ∅ 0 ∗ atPos ER (dcell 1 i c) 0 ∅ 0 ∗ cred (tallyAt (dcell 1 i c) () NX)
    ∗ ysAny (F := F) c i ∗ yrAny (F := F) (rot (4 - kk i) c) i
    ∗ dutyTok ER (dcell 2 i c) 0 0 ∗ dutyTok ER (dcell 3 i (rot (4 - kk i) c)) 0 0
    ∗ atPos ER (dcell 2 i c) 0 ∅ 0 ∗ atPos ER (dcell 3 i c) 0 ∅ 0 ∗ cred (tallyAt (dcell 3 i c) () NY))
/-- The block sent. -/
def slotB : sProp 𝕄 :=
  iprop(cred (tallyAt (dcell 0 i c) () NX)
    ∗ atPos ER (dcell 0 i c) 0 ∅ 0 ∗ atPos ER (dcell 1 i c) 0 ∅ 0 ∗ cred (tallyAt (dcell 1 i c) () NX)
    ∗ ysAny (F := F) c i ∗ yrAny (F := F) (rot (4 - kk i) c) i
    ∗ dutyTok ER (dcell 2 i c) 0 0 ∗ dutyTok ER (dcell 3 i (rot (4 - kk i) c)) 0 0
    ∗ atPos ER (dcell 2 i c) 0 ∅ 0 ∗ atPos ER (dcell 3 i c) 0 ∅ 0 ∗ cred (tallyAt (dcell 3 i c) () NY))
/-- The received block served and its products sent. -/
def slotC : sProp 𝕄 :=
  iprop(cred (tallyAt (dcell 0 i c) () NX)
    ∗ atPos ER (dcell 0 i c) 0 ∅ 0 ∗ semVal (dcell 1 i c) 0 ∗ xrAny (F := F) c i
    ∗ cred (tallyAt (dcell 2 i c) () NY)
    ∗ atPos ER (dcell 2 i c) 0 ∅ 0 ∗ atPos ER (dcell 3 i c) 0 ∅ 0 ∗ cred (tallyAt (dcell 3 i c) () NY))
/-- The returned products collected. -/
def slotD : sProp 𝕄 :=
  iprop(cred (tallyAt (dcell 0 i c) () NX)
    ∗ atPos ER (dcell 0 i c) 0 ∅ 0 ∗ semVal (dcell 1 i c) 0 ∗ xrAny (F := F) c i
    ∗ cred (tallyAt (dcell 2 i c) () NY)
    ∗ atPos ER (dcell 2 i c) 0 ∅ 0 ∗ semVal (dcell 3 i c) 0 ∗ yrAny (F := F) c i)
/-- The block's send waited for. -/
def slotE : sProp 𝕄 :=
  iprop(semVal (dcell 0 i c) 0 ∗ xsAny (F := F) c i ∗ semVal (dcell 1 i c) 0 ∗ xrAny (F := F) c i
    ∗ cred (tallyAt (dcell 2 i c) () NY)
    ∗ atPos ER (dcell 2 i c) 0 ∅ 0 ∗ semVal (dcell 3 i c) 0 ∗ yrAny (F := F) c i)
/-- The products' send waited for: everything back. -/
def slotF : sProp 𝕄 :=
  iprop(semVal (dcell 0 i c) 0 ∗ xsAny (F := F) c i ∗ semVal (dcell 1 i c) 0 ∗ xrAny (F := F) c i
    ∗ semVal (dcell 2 i c) 0 ∗ ysAny (F := F) c i ∗ semVal (dcell 3 i c) 0 ∗ yrAny (F := F) c i)

end States

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores of a slot -/

theorem ld_xs (c : Dev nD) {i : ℕ} {off size : Fin 3 → ℕ} {inb} (h0 : off 0 = i) (h1 : size 0 = 1) {f} {hl}
    {α : Type} {Q : α → sProp 𝕄} {k : ((Rect.unit (s := S6x112x256) off size inb).shape.Idx → Elt F .bf16) → Prog (TpuEff nD τ sig (Elt F) Λ₀ .tc) α} :
    xsP (F := F) c i f ⊢ iprop((xsP (F := F) c i f -∗ WP c (k (xsM.view.readAt (Elt F) (Rect.unit (s := S6x112x256) off size inb).toLoadRect f)) Q)
      -∗ WP c (.op (.load xsM (Rect.unit (s := S6x112x256) off size inb).toLoadRect hl) k) Q) :=
  wp_load_rect 𝒱₀ (c : Thread nD τ) none Set.univ (m := xsM) (r := Rect.unit (s := S6x112x256) off size inb) (S := slotX i)
    ((View.set_slice_whole cc0_scratch0 _).le.trans (unit_slotX h0 h1))
theorem ld_xr (c : Dev nD) {i : ℕ} {off size : Fin 3 → ℕ} {inb} (h0 : off 0 = i) (h1 : size 0 = 1) {f} {hl}
    {α : Type} {Q : α → sProp 𝕄} {k : ((Rect.unit (s := S6x112x256) off size inb).shape.Idx → Elt F .bf16) → Prog (TpuEff nD τ sig (Elt F) Λ₀ .tc) α} :
    xrP (F := F) c i f ⊢ iprop((xrP (F := F) c i f -∗ WP c (k (xrM.view.readAt (Elt F) (Rect.unit (s := S6x112x256) off size inb).toLoadRect f)) Q)
      -∗ WP c (.op (.load xrM (Rect.unit (s := S6x112x256) off size inb).toLoadRect hl) k) Q) :=
  wp_load_rect 𝒱₀ (c : Thread nD τ) none Set.univ (m := xrM) (r := Rect.unit (s := S6x112x256) off size inb) (S := slotX i)
    ((View.set_slice_whole cc0_scratch1 _).le.trans (unit_slotX h0 h1))
theorem ld_ys (c : Dev nD) {i : ℕ} {off size : Fin 3 → ℕ} {inb} (h0 : off 0 = i) (h1 : size 0 = 1) {f} {hl}
    {α : Type} {Q : α → sProp 𝕄} {k : ((Rect.unit (s := S6x96x512) off size inb).shape.Idx → Elt F .bf16) → Prog (TpuEff nD τ sig (Elt F) Λ₀ .tc) α} :
    ysP (F := F) c i f ⊢ iprop((ysP (F := F) c i f -∗ WP c (k (ysM.view.readAt (Elt F) (Rect.unit (s := S6x96x512) off size inb).toLoadRect f)) Q)
      -∗ WP c (.op (.load ysM (Rect.unit (s := S6x96x512) off size inb).toLoadRect hl) k) Q) :=
  wp_load_rect 𝒱₀ (c : Thread nD τ) none Set.univ (m := ysM) (r := Rect.unit (s := S6x96x512) off size inb) (S := slotY i)
    ((View.set_slice_whole cc0_scratch2 _).le.trans (unit_slotY h0 h1))
theorem ld_yr (c : Dev nD) {i : ℕ} {off size : Fin 3 → ℕ} {inb} (h0 : off 0 = i) (h1 : size 0 = 1) {f} {hl}
    {α : Type} {Q : α → sProp 𝕄} {k : ((Rect.unit (s := S6x96x512) off size inb).shape.Idx → Elt F .bf16) → Prog (TpuEff nD τ sig (Elt F) Λ₀ .tc) α} :
    yrP (F := F) c i f ⊢ iprop((yrP (F := F) c i f -∗ WP c (k (yrM.view.readAt (Elt F) (Rect.unit (s := S6x96x512) off size inb).toLoadRect f)) Q)
      -∗ WP c (.op (.load yrM (Rect.unit (s := S6x96x512) off size inb).toLoadRect hl) k) Q) :=
  wp_load_rect 𝒱₀ (c : Thread nD τ) none Set.univ (m := yrM) (r := Rect.unit (s := S6x96x512) off size inb) (S := slotY i)
    ((View.set_slice_whole cc0_scratch3 _).le.trans (unit_slotY h0 h1))
theorem st_xs (c : Dev nD) {i : ℕ} {off size : Fin 3 → ℕ} {inb} (h0 : off 0 = i) (h1 : size 0 = 1) {f w hx hm}
    {α : Type} {Q : α → sProp 𝕄} {k : PUnit → Prog (TpuEff nD τ sig (Elt F) Λ₀ .tc) α} :
    xsP (F := F) c i f ⊢ iprop((xsP (F := F) c i ((xsM.access (Rect.unit (s := S6x112x256) off size inb)).write (Elt F) f w Finset.univ) -∗ WP c (k ⟨⟩) Q)
      -∗ WP c (.op (.store xsM (Rect.unit (s := S6x112x256) off size inb) w Finset.univ hx hm) k) Q) :=
  wp_store 𝒱₀ (c : Thread nD τ) none Set.univ (m := xsM) (r := Rect.unit (s := S6x112x256) off size inb) (S := slotX i)
    ((View.set_slice_whole cc0_scratch0 _).le.trans (unit_slotX h0 h1))
theorem st_ys (c : Dev nD) {i : ℕ} {off size : Fin 3 → ℕ} {inb} (h0 : off 0 = i) (h1 : size 0 = 1) {f w hx hm}
    {α : Type} {Q : α → sProp 𝕄} {k : PUnit → Prog (TpuEff nD τ sig (Elt F) Λ₀ .tc) α} :
    ysP (F := F) c i f ⊢ iprop((ysP (F := F) c i ((ysM.access (Rect.unit (s := S6x96x512) off size inb)).write (Elt F) f w Finset.univ) -∗ WP c (k ⟨⟩) Q)
      -∗ WP c (.op (.store ysM (Rect.unit (s := S6x96x512) off size inb) w Finset.univ hx hm) k) Q) :=
  wp_store 𝒱₀ (c : Thread nD τ) none Set.univ (m := ysM) (r := Rect.unit (s := S6x96x512) off size inb) (S := slotY i)
    ((View.set_slice_whole cc0_scratch2 _).le.trans (unit_slotY h0 h1))

/-! ## Sending a block -/

theorem credit_xr {i : ℕ} {inb} : (vX xrM i inb).view.dmaCredit = NX := rfl
theorem credit_xs {i : ℕ} {inb} : (vX xsM i inb).view.dmaCredit = NX := rfl
theorem credit_yr {i : ℕ} {inb} : (vY yrM i inb).view.dmaCredit = NY := rfl
theorem credit_ys {i : ℕ} {inb} : (vY ysM i inb).view.dmaCredit = NY := rfl

theorem owe_x (c : Dev nD) (i : ℕ) (l : List Debt) : oweL c (dX i :: l) = oweL c l + tallyAt (dcell 1 i (rot (kk i) c)) () NX := oweL_cons c (dX i) l
theorem owe_y (c : Dev nD) (i : ℕ) (l : List Debt) : oweL c (dY i :: l) = oweL c l + tallyAt (dcell 3 i (rot (4 - kk i) c)) () NY := oweL_cons c (dY i) l

theorem wp_send_x (c n : Dev nD) (i : ℕ) (hi : i < 6) (hn : n = rot (kk i) c) {inb inb'} {sS rS : DmaSem sig} (hs : sS = dsem 0 i) (hr : rS = dsem 1 i)
    {hsc : (vX xrM i inb : Memref sig (Dev.tc n : Thread nD τ).2.kind .vmem S112x256 .bf16).view.ref.isScScratch = false}
    {hsrc : (vX xsM i inb').view.WordExact} {hdst : (vX xrM i inb).view.WordExact}
    {hsem : DmaTarget.Typed .vmem (.dma rS) (.remote (Dev.tc n : Thread nD τ) (vX xrM i inb) (.dma sS) hsc)}
    {α : Type} {Q : α → sProp 𝕄} {k : PUnit → Prog (TpuEff nD τ sig (Elt F) Λ₀ .tc) α}
    (l : List Debt) (W : Waits sig Unit) :
    iprop(records m ρ K ∗ (∃ f, ⌜holdsX i (XS m ρ c i) (BR m ρ c i) f⌝ ∗ xsP (F := F) c i f) ∗ xrAny (F := F) (rot (kk i) c) i
        ∗ dutyTok ER (dcell 0 i c) 0 0 ∗ dutyTok ER (dcell 1 i (rot (kk i) c)) 0 0 ∗ owes (c : Thread nD τ) (oweL c (dX i :: l)) W)
      ⊢ iprop(((cred (tallyAt (dcell 0 i c) () NX) ∗ owes (c : Thread nD τ) (oweL c l) W) -∗ WP c (k ⟨⟩) Q)
          -∗ WP c (.op (.enqueueDma (vX xsM i inb') (.remote (Dev.tc n : Thread nD τ) (vX xrM i inb) (.dma sS) hsc) (.dma rS) hsrc hdst hsem) k) Q) := by
  subst hn hs hr
  unfold xrAny
  iintro ⟨#HR, ⟨%fs, %hfs, Hs⟩, ⟨%fd, Hd⟩, HtS, HtR, HO⟩
  iapply (Rounds.wp_send_pointsTo 𝒱₀ ER (sched m ρ) (c : Thread nD τ) none (κ₁ := K (c, cnum 0 i)) (κ₂ := K (rot (kk i) c, cnum 1 i))
    (r₁ := 0) (r₂ := 0) (d₁ := (0 : Fin 4)) (d₂ := (0 : Fin 4)) (fs := fs) (fd := fd) (q := fullShare)
    (c' := (Dev.tc (rot (kk i) c) : Thread nD τ)) (src := vX xsM i inb') (dst := vX xrM i inb) (sS := .dma (dsem 0 i)) (sem := .dma (dsem 1 i))
    (by rw [duties_d m ρ c 0 i (by decide) hi]; exact Finset.mem_singleton_self _)
    (by rw [duties_d m ρ (rot (kk i) c) 1 i (by decide) hi]; exact Finset.mem_singleton_self _)
    () () NX rfl (amount_dx m ρ c 0 i (by decide) hi 0) (amount_dx m ρ (rot (kk i) c) 1 i (by decide) hi 0)
    (oweL c l) (owe_x c i l) (W := W)
    (by rw [payload_s1 m ρ c i hi, set_xs]; unfold xsAny xsP; iintro H; iexists fs; iexact H)
    (by
      rw [payload_r1 m ρ _ i hi, set_xr]; unfold xrFull xrP
      have hk : kk i ≤ 3 := by unfold kk; omega
      rw [rot_rot (4 - kk i) (kk i) c (by omega)]
      iintro H
      iexists ((vX xrM i inb).view.write (Elt F) fd ((vX xsM i inb').view.read (Elt F) fs) Finset.univ)
      isplitr
      · ipureintro; exact holdsX_congr (fun j hj => sent_x fd fs hj) hfs
      · iexact H)) $$ [Hs Hd HtS HtR HO]
  · isplitr; · iapply (inv_d m ρ K c 0 i (by decide) hi); iexact HR
    isplitr; · iapply (inv_d m ρ K (rot (kk i) c) 1 i (by decide) hi); iexact HR
    isplitl [Hs]; · rw [set_xs]; unfold xsP; iexact Hs
    isplitl [Hd]; · rw [set_xr]; unfold xrP; iexact Hd
    isplitl [HO]; · iexact HO
    isplitl [HtS]; · iexact HtS
    isplitr; · iapply (reached_d m ρ K c 0 i (by decide) hi); iexact HR
    isplitl [HtR]; · iexact HtR
    iapply (reached_d m ρ K (rot (kk i) c) 1 i (by decide) hi); iexact HR

theorem wp_send_y (c n : Dev nD) (i : ℕ) (hi : i < 6) (hn : n = rot (4 - kk i) c) {inb inb'} {sS rS : DmaSem sig} (hs : sS = dsem 2 i) (hr : rS = dsem 3 i)
    {hsc : (vY yrM i inb : Memref sig (Dev.tc n : Thread nD τ).2.kind .vmem S96x512 .bf16).view.ref.isScScratch = false}
    {hsrc : (vY ysM i inb').view.WordExact} {hdst : (vY yrM i inb).view.WordExact}
    {hsem : DmaTarget.Typed .vmem (.dma rS) (.remote (Dev.tc n : Thread nD τ) (vY yrM i inb) (.dma sS) hsc)}
    {α : Type} {Q : α → sProp 𝕄} {k : PUnit → Prog (TpuEff nD τ sig (Elt F) Λ₀ .tc) α}
    (l : List Debt) (W : Waits sig Unit) :
    iprop(records m ρ K ∗ (∃ f, ⌜holdsY i (YS m ρ c i) f⌝ ∗ ysP (F := F) c i f) ∗ yrAny (F := F) (rot (4 - kk i) c) i
        ∗ dutyTok ER (dcell 2 i c) 0 0 ∗ dutyTok ER (dcell 3 i (rot (4 - kk i) c)) 0 0 ∗ owes (c : Thread nD τ) (oweL c (dY i :: l)) W)
      ⊢ iprop(((cred (tallyAt (dcell 2 i c) () NY) ∗ owes (c : Thread nD τ) (oweL c l) W) -∗ WP c (k ⟨⟩) Q)
          -∗ WP c (.op (.enqueueDma (vY ysM i inb') (.remote (Dev.tc n : Thread nD τ) (vY yrM i inb) (.dma sS) hsc) (.dma rS) hsrc hdst hsem) k) Q) := by
  subst hn hs hr
  unfold yrAny
  iintro ⟨#HR, ⟨%fs, %hfs, Hs⟩, ⟨%fd, Hd⟩, HtS, HtR, HO⟩
  iapply (Rounds.wp_send_pointsTo 𝒱₀ ER (sched m ρ) (c : Thread nD τ) none (κ₁ := K (c, cnum 2 i)) (κ₂ := K (rot (4 - kk i) c, cnum 3 i))
    (r₁ := 0) (r₂ := 0) (d₁ := (0 : Fin 4)) (d₂ := (0 : Fin 4)) (fs := fs) (fd := fd) (q := fullShare)
    (c' := (Dev.tc (rot (4 - kk i) c) : Thread nD τ)) (src := vY ysM i inb') (dst := vY yrM i inb) (sS := .dma (dsem 2 i)) (sem := .dma (dsem 3 i))
    (by rw [duties_d m ρ c 2 i (by decide) hi]; exact Finset.mem_singleton_self _)
    (by rw [duties_d m ρ (rot (4 - kk i) c) 3 i (by decide) hi]; exact Finset.mem_singleton_self _)
    () () NY rfl (amount_dy m ρ c 2 i (by decide) (by decide) hi 0) (amount_dy m ρ (rot (4 - kk i) c) 3 i (by decide) (by decide) hi 0)
    (oweL c l) (owe_y c i l) (W := W)
    (by rw [payload_s2 m ρ c i hi, set_ys]; unfold ysAny ysP; iintro H; iexists fs; iexact H)
    (by
      rw [payload_r2 m ρ _ i hi, set_yr]; unfold yrFull yrP
      have hk : kk i ≤ 3 := by unfold kk; omega
      rw [rot_rot (kk i) (4 - kk i) c (by omega)]
      iintro H
      iexists ((vY yrM i inb).view.write (Elt F) fd ((vY ysM i inb').view.read (Elt F) fs) Finset.univ)
      isplitr
      · ipureintro; exact holdsY_congr (fun j hj => sent_y fd fs hj) hfs
      · iexact H)) $$ [Hs Hd HtS HtR HO]
  · isplitr; · iapply (inv_d m ρ K c 2 i (by decide) hi); iexact HR
    isplitr; · iapply (inv_d m ρ K (rot (4 - kk i) c) 3 i (by decide) hi); iexact HR
    isplitl [Hs]; · rw [set_ys]; unfold ysP; iexact Hs
    isplitl [Hd]; · rw [set_yr]; unfold yrP; iexact Hd
    isplitl [HO]; · iexact HO
    isplitl [HtS]; · iexact HtS
    isplitr; · iapply (reached_d m ρ K c 2 i (by decide) hi); iexact HR
    isplitl [HtR]; · iexact HtR
    iapply (reached_d m ρ K (rot (4 - kk i) c) 3 i (by decide) hi); iexact HR

/-- Slot `i` written (the block, then the row of bits under it) and sent. -/
theorem step_disp (c n : Dev nD) (i : ℕ) (hi : i < 6) (hn : n = rot (kk i) c) {inb inb'} {sS rS : DmaSem sig} (hs : sS = dsem 0 i) (hr : rS = dsem 1 i)
    {w : Vec F S1x96x256 .bf16} {row : Vec F S1x1x32 .bf16 → Vec F S1x1x128 .bf16} (hw : w = XS m ρ c i) (hrow : row = rowB c (iI m ρ c) i)
    {hA hB hC hD hl1 hl2 hl3 hl4 hs1 hs2 hm1 hm2}
    {hsc : (vX xrM i inb : Memref sig (Dev.tc n : Thread nD τ).2.kind .vmem S112x256 .bf16).view.ref.isScScratch = false}
    {hsrc : (vX xsM i inb').view.WordExact} {hdst : (vX xrM i inb).view.WordExact}
    {hsem : DmaTarget.Typed .vmem (.dma rS) (.remote (Dev.tc n : Thread nD τ) (vX xrM i inb) (.dma sS) hsc)}
    {α : Type} {Q : α → sProp 𝕄} {k : PUnit → Prog (TpuEff nD τ sig (Elt F) Λ₀ .tc) α}
    (l : List Debt) (W : Waits sig Unit) :
    iprop(records m ρ K ∗ slotA (F := F) c i ∗ owes (c : Thread nD τ) (oweL c (dX i :: l)) W)
      ⊢ iprop(((slotB (F := F) c i ∗ owes (c : Thread nD τ) (oweL c l) W) -∗ WP c (k ⟨⟩) Q)
          -∗ WP c (.op (.load xsM (Rect.unit (s := S6x112x256) ![i, 0, 0] S1x96x256.size hA).toLoadRect hl1) fun _ =>
              .op (.store xsM (Rect.unit (s := S6x112x256) ![i, 0, 0] S1x96x256.size hA) w Finset.univ hs1 hm1) fun _ =>
              .op (.load xsM (Rect.unit (s := S6x112x256) ![i, 96, 96] S1x1x32.size hB).toLoadRect hl2) fun t =>
              .op (.load xsM (Rect.unit (s := S6x112x256) ![i, 96, 0] S1x1x128.size hC).toLoadRect hl3) fun _ =>
              .op (.load xsM (Rect.unit (s := S6x112x256) ![i, 96, 0] S1x2x128.size hD).toLoadRect hl4) fun old =>
              .op (.store xsM (Rect.unit (s := S6x112x256) ![i, 96, 0] S1x2x128.size hD)
                (updateSlice old (row t) ![0, 0, 0] slices_S1x2x128_S1x1x128_0_0_0) Finset.univ hs2 hm2) fun _ =>
              .op (.enqueueDma (vX xsM i inb') (.remote (Dev.tc n : Thread nD τ) (vX xrM i inb) (.dma sS) hsc) (.dma rS) hsrc hdst hsem) k) Q) := by
  subst hw hrow
  unfold slotA slotB xsAny
  iintro ⟨#HR, ⟨⟨%f, Hs⟩, Hd, HtS, HtR, Hrest⟩, HO⟩ Hk
  iapply (ld_xs c (i := i) rfl rfl) $$ Hs; iintro Hs
  iapply (st_xs c (i := i) rfl rfl) $$ Hs; iintro Hs
  iapply (ld_xs c (i := i) rfl rfl) $$ Hs; iintro Hs
  iapply (ld_xs c (i := i) rfl rfl) $$ Hs; iintro Hs
  iapply (ld_xs c (i := i) rfl rfl) $$ Hs; iintro Hs
  iapply (st_xs c (i := i) rfl rfl) $$ Hs; iintro Hs
  iapply (wp_send_x m ρ K c n i hi hn hs hr l W) $$ [Hs Hd HtS HtR HO]
  · isplitr; · iexact HR
    isplitl [Hs]
    · iexists _; isplitr; rotate_left
      · iexact Hs
      · ipureintro; exact filled f (XS m ρ c i) (BR m ρ c i) _ _ (rowB_bits c (iI m ρ c) i _)
    isplitl [Hd]; · iexact Hd
    isplitl [HtS]; · iexact HtS
    isplitl [HtR]; · iexact HtR
    iexact HO
  iintro ⟨HcS, HO⟩
  iapply Hk
  isplitl [HcS Hrest]
  · isplitl [HcS]; · iexact HcS
    iexact Hrest
  iexact HO

/-! ## Serving a received block -/

theorem lv_r1 {i : ℕ} (hi : i < 6) : lvS (.dma (dsem 1 i)) = 2 := by
  have h : (dsem 1 i).val = 12 + i := by
    show (6 + 6 * 1 + i) % 30 = 12 + i
    omega
  show (if (dsem 1 i).val < 12 then 0 else if (dsem 1 i).val < 18 then 2 else if (dsem 1 i).val < 24 then 0 else 3) = 2
  rw [h, if_neg (by omega), if_pos (by omega)]

/-- A wait on an own slot cell: the payload of its one duty, and the counter at zero. -/
theorem wp_wait_d (c : Dev nD) (a i : ℕ) (ha : a < 4) (hi : i < 6) {sm : DmaSem sig} (hs : sm = dsem a i) (N : ℕ)
    (hN : (sched (F := F) m ρ).expect (dcell a i c) 0 = N)
    {S : Shape} {src dst : Memref sig .tc .vmem S .bf16} (hd : dst.view.dmaCredit = N) {h1 : src.view.WordExact} {h2 : dst.view.WordExact}
    {α : Type} {Q : α → sProp 𝕄} {k : PUnit → Prog (TpuEff nD τ sig (Elt F) Λ₀ .tc) α}
    (l : List Debt) (hl : ∀ x ∈ l, lvS (.dma (dsem a i)) < lvS x.2.1) (W : Waits sig Unit) :
    iprop(records m ρ K ∗ levAts L lv ∗ cred (tallyAt (dcell a i c) () N) ∗ atPos ER (dcell a i c) 0 ∅ 0 ∗ owes (c : Thread nD τ) (oweL c l) W)
      ⊢ iprop((((sched m ρ).payload (dcell a i c) 0 0 ∗ semVal (dcell a i c) 0 ∗ ∃ W', owes (c : Thread nD τ) (oweL c l) W') -∗ WP c (k ⟨⟩) Q)
          -∗ WP c (.op (.waitDma2 sm src dst h1 h2) k) Q) := by
  subst hs hd
  iintro ⟨#HR, #Hlev, Hc, Hat, HO⟩ Hk
  iapply (Rounds.wp_wait_rest_token 𝒱₀ ER (sched m ρ) (c : Thread nD τ) none (κ := K (c, cnum a i))
      (wpE_waitDma2_eq 𝒱₀ (c : Thread nD τ) none Set.univ) (Set.mem_univ _) () (O := oweL c l) (W := W) (R := 0) (m := 0) (T := ∅)
      (by rw [Nat.zero_add]; exact hN.symm)) $$ [Hc HO Hat]
  · isplitr; · iapply (inv_d m ρ K c a i ha hi); iexact HR
    isplitl [Hc]; · iexact Hc
    isplitl [HO]; · iexact HO
    isplitr; · iapply (mayWait (F := F) c (.dma (dsem a i)) l hl); iexact Hlev
    iexact Hat
  iintro ⟨HO, Hat, -, Hpay⟩
  ihave Hp := (Entails.of_eq (rest_d m ρ c a i ha hi)) $$ Hpay
  imod (Rounds.cell_close ER (sched m ρ) (Set.mem_univ (K (c, cnum a i))) (fun h => h) (R := 0 + 1) (duties_later m ρ (dcell a i c))) $$ [Hat] with Hz
  · isplitr; · iapply (inv_d m ρ K c a i ha hi); iexact HR
    iexact Hat
  iapply Hk
  isplitl [Hp]; · iexact Hp
  isplitl [Hz]; · iexact Hz
  iexists _; iexact HO

/-- What a load of slot `i`'s rows of tokens reads, of the bits under them, and of a slot of products. -/
theorem read_xr_rows {i : ℕ} (hi : i < 6) {inb} {w : Vec F S1x96x256 .bf16} {b : Vec F S1x1x96 .bf16} {f} (h : holdsX i w b f) :
    xrM.view.readAt (Elt F) (Rect.unit (s := S6x112x256) ![i, 0, 0] S1x96x256.size inb).toLoadRect f = w := funext fun j => (h hi).1 j
theorem read_xr_bits {i : ℕ} (hi : i < 6) {inb} {w : Vec F S1x96x256 .bf16} {b : Vec F S1x1x96 .bf16} {f} (h : holdsX i w b f) :
    xrM.view.readAt (Elt F) (Rect.unit (s := S6x112x256) ![i, 96, 0] S1x1x96.size inb).toLoadRect f = b := funext fun j => (h hi).2 j
theorem read_yr {i : ℕ} (hi : i < 6) {inb} {w : Vec F S1x96x512 .bf16} {f} (h : holdsY i w f) :
    yrM.view.readAt (Elt F) (Rect.unit (s := S6x96x512) ![i, 0, 0] S1x96x512.size inb).toLoadRect f = w := funext fun j => h hi j
theorem holds_written {i : ℕ} {inb} (f : S6x96x512.Idx → Elt F .bf16) (w : Vec F S1x96x512 .bf16) :
    holdsY i w ((ysM.access (Rect.unit (s := S6x96x512) ![i, 0, 0] S1x96x512.size inb)).write (Elt F) f w Finset.univ) := fun hi j =>
  View.write_emb_of_mem (v := ysM.access (Rect.unit (s := S6x96x512) ![i, 0, 0] S1x96x512.size inb)) f w (Finset.mem_univ j)

/-- The block received in slot `i` waited for, read, its products written and sent back. -/
theorem step_serve (c n : Dev nD) (i : ℕ) (hi : i < 6) (hn : n = rot (4 - kk i) c) {inb inb' inb₁ inb₂} {sm sS rS : DmaSem sig} (hsm : sm = dsem 1 i)
    (hs : sS = dsem 2 i) (hr : rS = dsem 3 i)
    {pay : Vec F S1x96x256 .bf16 → Vec F S1x1x96 .bf16 → Vec F S1x96x512 .bf16} (hp : pay = yOf (eI m ρ c))
    {hA hB hY hl1 hl2 hl3 hs1 hm1} {hsrc₁ : (vX xsM i inb₁).view.WordExact} {hdst₁ : (vX xrM i inb₂).view.WordExact}
    {hsc : (vY yrM i inb : Memref sig (Dev.tc n : Thread nD τ).2.kind .vmem S96x512 .bf16).view.ref.isScScratch = false}
    {hsrc : (vY ysM i inb').view.WordExact} {hdst : (vY yrM i inb).view.WordExact}
    {hsem : DmaTarget.Typed .vmem (.dma rS) (.remote (Dev.tc n : Thread nD τ) (vY yrM i inb) (.dma sS) hsc)}
    {α : Type} {Q : α → sProp 𝕄} {k : PUnit → Prog (TpuEff nD τ sig (Elt F) Λ₀ .tc) α}
    (l : List Debt) (hl : ∀ x ∈ dY i :: l, 2 < lvS x.2.1) :
    iprop(records m ρ K ∗ levAts L lv ∗ slotB (F := F) c i ∗ (∃ W, owes (c : Thread nD τ) (oweL c (dY i :: l)) W))
      ⊢ iprop(((slotC (F := F) c i ∗ ∃ W, owes (c : Thread nD τ) (oweL c l) W) -∗ WP c (k ⟨⟩) Q)
          -∗ WP c (.op (.waitDma2 sm (vX xsM i inb₁) (vX xrM i inb₂) hsrc₁ hdst₁) fun _ =>
              .op (.load xrM (Rect.unit (s := S6x112x256) ![i, 0, 0] S1x96x256.size hA).toLoadRect hl1) fun xb =>
              .op (.load xrM (Rect.unit (s := S6x112x256) ![i, 96, 0] S1x1x96.size hB).toLoadRect hl2) fun bb =>
              .op (.load ysM (Rect.unit (s := S6x96x512) ![i, 0, 0] S1x96x512.size hY).toLoadRect hl3) fun _ =>
              .op (.store ysM (Rect.unit (s := S6x96x512) ![i, 0, 0] S1x96x512.size hY) (pay xb bb) Finset.univ hs1 hm1) fun _ =>
              .op (.enqueueDma (vY ysM i inb') (.remote (Dev.tc n : Thread nD τ) (vY yrM i inb) (.dma sS) hsc) (.dma rS) hsrc hdst hsem) k) Q) := by
  subst hp hsm
  have hlv : lvS (.dma (dsem 1 i)) = 2 := lv_r1 hi
  unfold slotB slotC ysAny
  iintro ⟨#HR, #Hlev, ⟨Hc0, Hp0, Hp1, Hc1, ⟨%fy, Hy⟩, Hyr, Ht2, Ht3, Hrest⟩, ⟨%W, HO⟩⟩ Hk
  iapply (wp_wait_d m ρ K c 1 i (by decide) hi rfl NX (expect_dx m ρ c 1 i (by decide) hi)
    credit_xr (dY i :: l) (by rw [hlv]; exact hl) W) $$ [Hc1 Hp1 HO]
  · isplitr; · iexact HR
    isplitr; · iexact Hlev
    isplitl [Hc1]; · iexact Hc1
    isplitl [Hp1]; · iexact Hp1
    iexact HO
  rw [payload_r1 m ρ c i hi]; unfold xrFull
  iintro ⟨⟨%f, %hf, Hx⟩, Hz1, ⟨%W', HO⟩⟩
  iapply (ld_xr c (i := i) rfl rfl) $$ Hx; iintro Hx
  rw [read_xr_rows hi hf]
  iapply (ld_xr c (i := i) rfl rfl) $$ Hx; iintro Hx
  rw [read_xr_bits hi hf]
  iapply (ld_ys c (i := i) rfl rfl) $$ Hy; iintro Hy
  iapply (st_ys c (i := i) rfl rfl) $$ Hy; iintro Hy
  iapply (wp_send_y m ρ K c n i hi hn hs hr l W') $$ [Hy Hyr Ht2 Ht3 HO]
  · isplitr; · iexact HR
    isplitl [Hy]
    · iexists _; isplitr; rotate_left
      · iexact Hy
      · ipureintro; exact holds_written fy _
    isplitl [Hyr]; · iexact Hyr
    isplitl [Ht2]; · iexact Ht2
    isplitl [Ht3]; · iexact Ht3
    iexact HO
  iintro ⟨HcS, HO⟩
  iapply Hk
  isplitr [HO]
  · isplitl [Hc0]; · iexact Hc0
    isplitl [Hp0]; · iexact Hp0
    isplitl [Hz1]; · iexact Hz1
    isplitl [Hx]; · unfold xrAny; iexists f; iexact Hx
    isplitl [HcS]; · iexact HcS
    iexact Hrest
  iexists _; iexact HO

/-- The products returned to slot `i` waited for and read. -/
theorem step_coll (c : Dev nD) (i : ℕ) (hi : i < 6) {inb₁ inb₂} {sm : DmaSem sig} (hsm : sm = dsem 3 i) {hY hl1}
    {hsrc₁ : (vY ysM i inb₁).view.WordExact} {hdst₁ : (vY yrM i inb₂).view.WordExact}
    {α : Type} {Q : α → sProp 𝕄} {k : Vec F S1x96x512 .bf16 → Prog (TpuEff nD τ sig (Elt F) Λ₀ .tc) α} :
    iprop(records m ρ K ∗ levAts L lv ∗ slotC (F := F) c i ∗ (∃ W, owes (c : Thread nD τ) (oweL c []) W))
      ⊢ iprop(((slotD (F := F) c i ∗ ∃ W, owes (c : Thread nD τ) (oweL c []) W) -∗ WP c (k (YS m ρ (rot (kk i) c) i)) Q)
          -∗ WP c (.op (.waitDma2 sm (vY ysM i inb₁) (vY yrM i inb₂) hsrc₁ hdst₁) fun _ =>
              .op (.load yrM (Rect.unit (s := S6x96x512) ![i, 0, 0] S1x96x512.size hY).toLoadRect hl1) k) Q) := by
  subst hsm
  unfold slotC slotD
  iintro ⟨#HR, #Hlev, ⟨Hc0, Hp0, Hz1, Hx, Hc2, Hp2, Hp3, Hc3⟩, ⟨%W, HO⟩⟩ Hk
  iapply (wp_wait_d m ρ K c 3 i (by decide) hi rfl NY (expect_dy m ρ c 3 i (by decide) (by decide) hi)
    credit_yr [] (fun x hx => absurd hx List.not_mem_nil) W) $$ [Hc3 Hp3 HO]
  · isplitr; · iexact HR
    isplitr; · iexact Hlev
    isplitl [Hc3]; · iexact Hc3
    isplitl [Hp3]; · iexact Hp3
    iexact HO
  rw [payload_r2 m ρ c i hi]; unfold yrFull
  iintro ⟨⟨%f, %hf, Hy⟩, Hz3, HO⟩
  iapply (ld_yr c (i := i) rfl rfl) $$ Hy; iintro Hy
  rw [read_yr hi hf]
  iapply Hk
  isplitr [HO]
  · isplitl [Hc0]; · iexact Hc0
    isplitl [Hp0]; · iexact Hp0
    isplitl [Hz1]; · iexact Hz1
    isplitl [Hx]; · iexact Hx
    isplitl [Hc2]; · iexact Hc2
    isplitl [Hp2]; · iexact Hp2
    isplitl [Hz3]; · iexact Hz3
    unfold yrAny; iexists f; iexact Hy
  iexact HO

/-- The block's send waited for. -/
theorem step_fin1 (c : Dev nD) (i : ℕ) (hi : i < 6) {inb₁ inb₂} {sm : DmaSem sig} (hsm : sm = dsem 0 i)
    {hsrc₁ : (vX xrM i inb₁).view.WordExact} {hdst₁ : (vX xsM i inb₂).view.WordExact}
    {α : Type} {Q : α → sProp 𝕄} {k : PUnit → Prog (TpuEff nD τ sig (Elt F) Λ₀ .tc) α} :
    iprop(records m ρ K ∗ levAts L lv ∗ slotD (F := F) c i ∗ (∃ W, owes (c : Thread nD τ) (oweL c []) W))
      ⊢ iprop(((slotE (F := F) c i ∗ ∃ W, owes (c : Thread nD τ) (oweL c []) W) -∗ WP c (k ⟨⟩) Q)
          -∗ WP c (.op (.waitDma2 sm (vX xrM i inb₁) (vX xsM i inb₂) hsrc₁ hdst₁) k) Q) := by
  subst hsm
  unfold slotD slotE
  iintro ⟨#HR, #Hlev, ⟨Hc0, Hp0, Hrest⟩, ⟨%W, HO⟩⟩ Hk
  iapply (wp_wait_d m ρ K c 0 i (by decide) hi rfl NX (expect_dx m ρ c 0 i (by decide) hi)
    credit_xs [] (fun x hx => absurd hx List.not_mem_nil) W) $$ [Hc0 Hp0 HO]
  · isplitr; · iexact HR
    isplitr; · iexact Hlev
    isplitl [Hc0]; · iexact Hc0
    isplitl [Hp0]; · iexact Hp0
    iexact HO
  rw [payload_s1 m ρ c i hi]
  iintro ⟨Hx, Hz, HO⟩
  iapply Hk
  isplitr [HO]
  · isplitl [Hz]; · iexact Hz
    isplitl [Hx]; · iexact Hx
    iexact Hrest
  iexact HO

/-- The products' send waited for. -/
theorem step_fin2 (c : Dev nD) (i : ℕ) (hi : i < 6) {inb₁ inb₂} {sm : DmaSem sig} (hsm : sm = dsem 2 i)
    {hsrc₁ : (vY yrM i inb₁).view.WordExact} {hdst₁ : (vY ysM i inb₂).view.WordExact}
    {α : Type} {Q : α → sProp 𝕄} {k : PUnit → Prog (TpuEff nD τ sig (Elt F) Λ₀ .tc) α} :
    iprop(records m ρ K ∗ levAts L lv ∗ slotE (F := F) c i ∗ (∃ W, owes (c : Thread nD τ) (oweL c []) W))
      ⊢ iprop(((slotF (F := F) c i ∗ ∃ W, owes (c : Thread nD τ) (oweL c []) W) -∗ WP c (k ⟨⟩) Q)
          -∗ WP c (.op (.waitDma2 sm (vY yrM i inb₁) (vY ysM i inb₂) hsrc₁ hdst₁) k) Q) := by
  subst hsm
  unfold slotE slotF
  iintro ⟨#HR, #Hlev, ⟨Hz0, Hx0, Hz1, Hx1, Hc2, Hp2, Hrest⟩, ⟨%W, HO⟩⟩ Hk
  iapply (wp_wait_d m ρ K c 2 i (by decide) hi rfl NY (expect_dy m ρ c 2 i (by decide) (by decide) hi)
    credit_ys [] (fun x hx => absurd hx List.not_mem_nil) W) $$ [Hc2 Hp2 HO]
  · isplitr; · iexact HR
    isplitr; · iexact Hlev
    isplitl [Hc2]; · iexact Hc2
    isplitl [Hp2]; · iexact Hp2
    iexact HO
  rw [payload_s2 m ρ c i hi]
  iintro ⟨Hy, Hz, HO⟩
  iapply Hk
  isplitr [HO]
  · isplitl [Hz0]; · iexact Hz0
    isplitl [Hx0]; · iexact Hx0
    isplitl [Hz1]; · iexact Hz1
    isplitl [Hx1]; · iexact Hx1
    isplitl [Hz]; · iexact Hz
    isplitl [Hy]; · iexact Hy
    iexact Hrest
  iexact HO

end Cert.Moe
end
-- ==== Proof.Hand.lean ====
/-
# The handshake

The scratch buffers taken apart into their slots and put together again, and the first four operations of the body:
a device hands its three peers its landing slots by the barrier signals, and its own wait brings it theirs.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A family over the six slots, conjoined. -/
def six (Φ : ℕ → sProp 𝕄) : sProp 𝕄 := iprop(Φ 0 ∗ Φ 1 ∗ Φ 2 ∗ Φ 3 ∗ Φ 4 ∗ Φ 5)

theorem six_eq (Φ : ℕ → sProp 𝕄) : bigSep (Finset.range 6) Φ = six Φ :=
  bigSep_eq_bigSepL_of_eq [0, 1, 2, 3, 4, 5] (by decide) (by decide) Φ

theorem six_mono {Φ Ψ : ℕ → sProp 𝕄} (h : ∀ i, i < 6 → Φ i ⊢ Ψ i) : six Φ ⊢ six Ψ := by
  rw [← six_eq, ← six_eq]; exact bigSep_mono fun i hi => h i (Finset.mem_range.mp hi)

theorem six_sep (Φ Ψ : ℕ → sProp 𝕄) : iprop(six Φ ∗ six Ψ) ⊢ six fun i => iprop(Φ i ∗ Ψ i) := by
  rw [← six_eq, ← six_eq, ← six_eq, ← bigSep_sep']
theorem six_sep_elim (Φ Ψ : ℕ → sProp 𝕄) : six (fun i => iprop(Φ i ∗ Ψ i)) ⊢ iprop(six Φ ∗ six Ψ) := by
  rw [← six_eq, ← six_eq, ← six_eq, bigSep_sep']

/-! ## The slots of a scratch -/

theorem univ_slotX : (Finset.univ : Finset S6x112x256.Idx) = (Finset.range 6).biUnion slotX := by
  ext j
  have : (j 0).val < 6 := (j 0).isLt
  simp only [Finset.mem_univ, true_iff, Finset.mem_biUnion, Finset.mem_range]
  exact ⟨(j 0).val, this, mem_slotX.mpr rfl⟩
theorem univ_slotY : (Finset.univ : Finset S6x96x512.Idx) = (Finset.range 6).biUnion slotY := by
  ext j
  have : (j 0).val < 6 := (j 0).isLt
  simp only [Finset.mem_univ, true_iff, Finset.mem_biUnion, Finset.mem_range]
  exact ⟨(j 0).val, this, mem_slotY.mpr rfl⟩
theorem disj_slotX : ∀ t ∈ Finset.range 6, ∀ t' ∈ Finset.range 6, t ≠ t' → Disjoint (slotX t) (slotX t') := fun t _ t' _ h =>
  Finset.disjoint_left.mpr fun j hj hj' => h ((mem_slotX.mp hj).symm.trans (mem_slotX.mp hj'))
theorem disj_slotY : ∀ t ∈ Finset.range 6, ∀ t' ∈ Finset.range 6, t ≠ t' → Disjoint (slotY t) (slotY t') := fun t _ t' _ h =>
  Finset.disjoint_left.mpr fun j hj hj' => h ((mem_slotY.mp hj).symm.trans (mem_slotY.mp hj'))

theorem any_intro {ℓ : Loc nD τ sig} {I : Finset (Idx ℓ)} (f : Buf (Elt F) ℓ) :
    (ℓ ↦[I]{fullShare} f : sProp 𝕄) ⊢ iprop(∃ f : Buf (Elt F) ℓ, ℓ ↦[I]{fullShare} f) := by
  iintro H; iexists f; iexact H

section Split
variable {ℓ : Loc nD τ sig} {K : ℕ → Finset (Idx ℓ)} (hU : (Finset.univ : Finset (Idx ℓ)) = (Finset.range 6).biUnion K)
  (hD : ∀ t ∈ Finset.range 6, ∀ t' ∈ Finset.range 6, t ≠ t' → Disjoint (K t) (K t'))

include hU hD in
theorem split_of : iprop(∃ f : Buf (Elt F) ℓ, ℓ ↦{fullShare} f) ⊢ (six fun i => iprop(∃ f : Buf (Elt F) ℓ, ℓ ↦[K i]{fullShare} f) : sProp 𝕄) := by
  rw [← six_eq]
  iintro ⟨%f, H⟩
  rw [hU]
  ihave H := (Entails.of_eq (pointsTo_biUnion (Ix := Unit) (Name := ℕ) (U := UU) (Lvl := ℕ) (q := fullShare) (f := f) (Finset.range 6) K hD)) $$ H
  iapply (show (bigSep (Finset.range 6) fun t => (ℓ ↦[K t]{fullShare} f : sProp 𝕄)) ⊢ _ from
    bigSep_mono fun i _ => any_intro f); iexact H

include hU hD in
theorem join_of : (six fun i => iprop(∃ f : Buf (Elt F) ℓ, ℓ ↦[K i]{fullShare} f) : sProp 𝕄) ⊢ iprop(∃ f : Buf (Elt F) ℓ, ℓ ↦{fullShare} f) := by
  rw [← six_eq]
  iintro H
  ihave H := (BI.bigSep_exists_pi (Finset.range 6) (fun (i : ℕ) (f : Buf (Elt F) ℓ) => (ℓ ↦[K i]{fullShare} f : sProp 𝕄))) $$ H
  icases H with ⟨%fs, H⟩
  ihave H := (pointsTo_biUnion_join (Ix := Unit) (Name := ℕ) (U := UU) (Lvl := ℕ) (q := fullShare) (Finset.range 6) K fs (fs 0) hD) $$ H
  icases H with ⟨%g, -, H⟩
  iexists g; rw [hU]; iexact H
end Split

theorem split_xs (c : Dev nD) : iprop(∃ f : Buf (Elt F) ((c : Thread nD τ).loc cc0_scratch0), ((c : Thread nD τ).loc cc0_scratch0) ↦{fullShare} f) ⊢ (six (xsAny (F := F) c) : sProp 𝕄) :=
  split_of univ_slotX disj_slotX
theorem split_xr (c : Dev nD) : iprop(∃ f : Buf (Elt F) ((c : Thread nD τ).loc cc0_scratch1), ((c : Thread nD τ).loc cc0_scratch1) ↦{fullShare} f) ⊢ (six (xrAny (F := F) c) : sProp 𝕄) :=
  split_of univ_slotX disj_slotX
theorem split_ys (c : Dev nD) : iprop(∃ f : Buf (Elt F) ((c : Thread nD τ).loc cc0_scratch2), ((c : Thread nD τ).loc cc0_scratch2) ↦{fullShare} f) ⊢ (six (ysAny (F := F) c) : sProp 𝕄) :=
  split_of univ_slotY disj_slotY
theorem split_yr (c : Dev nD) : iprop(∃ f : Buf (Elt F) ((c : Thread nD τ).loc cc0_scratch3), ((c : Thread nD τ).loc cc0_scratch3) ↦{fullShare} f) ⊢ (six (yrAny (F := F) c) : sProp 𝕄) :=
  split_of univ_slotY disj_slotY
theorem join_xs (c : Dev nD) : (six (xsAny (F := F) c) : sProp 𝕄) ⊢ iprop(∃ f : Buf (Elt F) ((c : Thread nD τ).loc cc0_scratch0), ((c : Thread nD τ).loc cc0_scratch0) ↦{fullShare} f) :=
  join_of univ_slotX disj_slotX
theorem join_xr (c : Dev nD) : (six (xrAny (F := F) c) : sProp 𝕄) ⊢ iprop(∃ f : Buf (Elt F) ((c : Thread nD τ).loc cc0_scratch1), ((c : Thread nD τ).loc cc0_scratch1) ↦{fullShare} f) :=
  join_of univ_slotX disj_slotX
theorem join_ys (c : Dev nD) : (six (ysAny (F := F) c) : sProp 𝕄) ⊢ iprop(∃ f : Buf (Elt F) ((c : Thread nD τ).loc cc0_scratch2), ((c : Thread nD τ).loc cc0_scratch2) ↦{fullShare} f) :=
  join_of univ_slotY disj_slotY
theorem join_yr (c : Dev nD) : (six (yrAny (F := F) c) : sProp 𝕄) ⊢ iprop(∃ f : Buf (Elt F) ((c : Thread nD τ).loc cc0_scratch3), ((c : Thread nD τ).loc cc0_scratch3) ↦{fullShare} f) :=
  join_of univ_slotY disj_slotY

/-! ## The handshake -/

/-- A slot's ghost state at the start: `slotA` without the buffers. -/
def slotG (c : Dev nD) (i : ℕ) : sProp 𝕄 :=
  iprop(dutyTok ER (dcell 0 i c) 0 0 ∗ dutyTok ER (dcell 1 i (rot (kk i) c)) 0 0
    ∗ atPos ER (dcell 0 i c) 0 ∅ 0 ∗ atPos ER (dcell 1 i c) 0 ∅ 0 ∗ cred (tallyAt (dcell 1 i c) () NX)
    ∗ dutyTok ER (dcell 2 i c) 0 0 ∗ dutyTok ER (dcell 3 i (rot (4 - kk i) c)) 0 0
    ∗ atPos ER (dcell 2 i c) 0 ∅ 0 ∗ atPos ER (dcell 3 i c) 0 ∅ 0 ∗ cred (tallyAt (dcell 3 i c) () NY))

theorem slotA_intro (c : Dev nD) (i : ℕ) :
    iprop((xsAny (F := F) c i ∗ ysAny (F := F) c i ∗ slotG (F := F) c i) ∗ xrAny (F := F) (rot (kk i) c) i ∗ yrAny (F := F) (rot (4 - kk i) c) i)
      ⊢ slotA (F := F) c i := by
  unfold slotA slotG
  iintro ⟨⟨H1, H2, H3, H4, H5, H6, H7, H8, H9, H10, H11, H12⟩, H13, H14⟩
  isplitl [H1]; · iexact H1
  isplitl [H13]; · iexact H13
  isplitl [H3]; · iexact H3
  isplitl [H4]; · iexact H4
  isplitl [H5]; · iexact H5
  isplitl [H6]; · iexact H6
  isplitl [H7]; · iexact H7
  isplitl [H2]; · iexact H2
  isplitl [H14]; · iexact H14
  isplitl [H8]; · iexact H8
  isplitl [H9]; · iexact H9
  isplitl [H10]; · iexact H10
  isplitl [H11]; · iexact H11
  iexact H12

/-- What the three peers hand over is the landing slots of all six transfers each way. -/
theorem landing (c : Dev nD) : iprop(barPay (F := F) (rot 3 c) 1 ∗ barPay (F := F) (rot 2 c) 2 ∗ barPay (F := F) (rot 1 c) 3)
    ⊢ (six fun i => iprop(xrAny (F := F) (rot (kk i) c) i ∗ yrAny (F := F) (rot (4 - kk i) c) i) : sProp 𝕄) := by
  unfold barPay six
  iintro ⟨⟨⟨A4, A5⟩, B0, B1⟩, ⟨⟨A2, A3⟩, B2, B3⟩, ⟨A0, A1⟩, B4, B5⟩
  isplitl [A0 B0]
  · isplitl [A0]; · iexact A0
    iexact B0
  isplitl [A1 B1]
  · isplitl [A1]; · iexact A1
    iexact B1
  isplitl [A2 B2]
  · isplitl [A2]; · iexact A2
    iexact B2
  isplitl [A3 B3]
  · isplitl [A3]; · iexact A3
    iexact B3
  isplitl [A4 B4]
  · isplitl [A4]; · iexact A4
    iexact B4
  isplitl [A5]; · iexact A5
  iexact B5

theorem handed (c : Dev nD) : iprop(six (xrAny (F := F) c) ∗ six (yrAny (F := F) c))
    ⊢ iprop(barPay (F := F) c 1 ∗ barPay (F := F) c 2 ∗ barPay (F := F) c 3) := by
  unfold barPay six
  iintro ⟨⟨A0, A1, A2, A3, A4, A5⟩, B0, B1, B2, B3, B4, B5⟩
  isplitl [A4 A5 B0 B1]
  · isplitl [A4 A5]; · isplitl [A4] <;> iassumption
    isplitl [B0] <;> iassumption
  isplitl [A2 A3 B2 B3]
  · isplitl [A2 A3]; · isplitl [A2] <;> iassumption
    isplitl [B2] <;> iassumption
  isplitl [A0 A1]; · isplitl [A0] <;> iassumption
  isplitl [B4] <;> iassumption

variable (K : Dev nD × Fin 25 → ℕ)

/-- A signal to the device `k` places on, with what it hands over. -/
theorem wp_hand (c n : Dev nD) (k : ℕ) (hk : 1 ≤ k ∧ k ≤ 3) (d : Fin 4) (hd : d.val = k) (hn : n = rot k c) {sm : Sem sig} (hs : sm = barS)
    (l : List Debt) (W : Waits sig Unit)
    {α : Type} {Q : α → sProp 𝕄} {p : PUnit → Prog (TpuEff nD τ sig (Elt F) Λ₀ .tc) α} :
    iprop(records m ρ K ∗ dutyTok ER (barCell (rot k c)) 0 d ∗ barPay (F := F) c k ∗ owes (c : Thread nD τ) (oweL c (dB k :: l)) W)
      ⊢ iprop((owes (c : Thread nD τ) (oweL c l) W -∗ WP c (p ⟨⟩) Q)
          -∗ WP c (.op (.semSignal (n, .tc) sm (1#32).toInt) p) Q) := by
  subst hn hs
  have ho : oweL c (dB k :: l) = oweL c l + tallyAt (barCell (rot k c)) () 1 := oweL_cons c (dB k) l
  have hdm : d ∈ (sched (F := F) m ρ).duties (barCell (rot k c)) 0 := by
    rw [duties_bar, Finset.mem_insert, Finset.mem_insert, Finset.mem_singleton, Fin.ext_iff, Fin.ext_iff, Fin.ext_iff, hd]
    show k = 1 ∨ k = 2 ∨ k = 3; omega
  iintro ⟨#HR, Ht, Hp, HO⟩ Hk
  iapply (Rounds.wp_signal 𝒱₀ ER (sched m ρ) (c : Thread nD τ) none (dst := ((rot k c : Dev nD) : Thread nD τ)) (κ := K (rot k c, 0))
      (d := d) hdm ((amount_bar m ρ (rot k c) d).trans (by decide)) () (oweL c l) ho) $$ [HO Ht Hp]
  · isplitr; · iapply (inv_bar m ρ K (rot k c)); iexact HR
    isplitl [HO]; · iexact HO
    isplitl [Ht]; · iexact Ht
    isplitl [Hp]
    · rw [payload_bar, hd, rot_rot (4 - k) k c (by omega)]; iexact Hp
    · iapply (reached_bar m ρ K (rot k c)); iexact HR
  iexact Hk

/-- The three signals and the wait for three. -/
theorem step_hand (c n₁ n₂ n₃ : Dev nD) (h₁ : n₁ = rot 1 c) (h₂ : n₂ = rot 2 c) (h₃ : n₃ = rot 3 c) {sm : Sem sig} (hs : sm = barS)
    {α : Type} {Q : α → sProp 𝕄} {p : PUnit → Prog (TpuEff nD τ sig (Elt F) Λ₀ .tc) α} :
    iprop(records m ρ K ∗ levAts L lv
        ∗ (dutyTok ER (barCell (rot 1 c)) 0 1 ∗ dutyTok ER (barCell (rot 2 c)) 0 2 ∗ dutyTok ER (barCell (rot 3 c)) 0 3 ∗ atPos ER (barCell c) 0 ∅ 0
          ∗ cred (tallyAt (barCell c) () 3) ∗ six (slotG (F := F) c))
        ∗ (six (xsAny (F := F) c) ∗ six (xrAny (F := F) c) ∗ six (ysAny (F := F) c) ∗ six (yrAny (F := F) c))
        ∗ (∃ W, owes (c : Thread nD τ) (oweL c allDebts) W))
      ⊢ iprop(((six (slotA (F := F) c) ∗ semVal (barCell c) 0 ∗ ∃ W, owes (c : Thread nD τ) (oweL c [dX 0, dX 1, dX 2, dX 3, dX 4, dX 5, dY 0, dY 4, dY 2, dY 1, dY 5, dY 3]) W) -∗ WP c (p ⟨⟩) Q)
          -∗ WP c (.op (.semSignal (n₁, .tc) sm (1#32).toInt) fun _ => .op (.semSignal (n₂, .tc) sm (1#32).toInt) fun _ =>
              .op (.semSignal (n₃, .tc) sm (1#32).toInt) fun _ => .op (.semWait sm (3#32).toInt) p) Q) := by
  iintro ⟨#HR, #Hlev, ⟨Ht1, Ht2, Ht3, Hat, Hc, Hg⟩, ⟨Hxs, Hxr, Hys, Hyr⟩, ⟨%W, HO⟩⟩ Hk
  ihave Hb := (handed (F := F) c) $$ [Hxr Hyr]
  · isplitl [Hxr] <;> iassumption
  icases Hb with ⟨Hb1, Hb2, Hb3⟩
  iapply (wp_hand m ρ K c n₁ 1 (by decide) 1 rfl h₁ hs _ W) $$ [Ht1 Hb1 HO]
  · isplitr; · iexact HR
    isplitl [Ht1]; · iexact Ht1
    isplitl [Hb1] <;> iassumption
  iintro HO
  iapply (wp_hand m ρ K c n₂ 2 (by decide) 2 rfl h₂ hs _ W) $$ [Ht2 Hb2 HO]
  · isplitr; · iexact HR
    isplitl [Ht2]; · iexact Ht2
    isplitl [Hb2] <;> iassumption
  iintro HO
  iapply (wp_hand m ρ K c n₃ 3 (by decide) 3 rfl h₃ hs _ W) $$ [Ht3 Hb3 HO]
  · isplitr; · iexact HR
    isplitl [Ht3]; · iexact Ht3
    isplitl [Hb3] <;> iassumption
  iintro HO
  subst hs
  iapply (Rounds.wp_wait_rest_token 𝒱₀ ER (sched m ρ) (c : Thread nD τ) none (κ := K (c, 0))
      (wpE_semWait_eq 𝒱₀ (c : Thread nD τ) none Set.univ) (Set.mem_univ _) () (O := oweL c [dX 0, dX 1, dX 2, dX 3, dX 4, dX 5, dY 0, dY 4, dY 2, dY 1, dY 5, dY 3])
      (W := W) (R := 0) (m := 0) (T := ∅)
      (by rw [expect_bar]; decide)) $$ [Hc HO Hat]
  · isplitr; · iapply (inv_bar m ρ K c); iexact HR
    isplitl [Hc]; · iexact Hc
    isplitl [HO]; · iexact HO
    isplitr; · iapply (mayWait (F := F) c (.reg barS) _ (by decide)); iexact Hlev
    iexact Hat
  iintro ⟨HO, Hat, -, Hpay⟩
  ihave Hp := (Entails.of_eq (rest_bar m ρ c)) $$ Hpay
  imod (Rounds.cell_close ER (sched m ρ) (Set.mem_univ (K (c, 0))) (fun h => h) (R := 0 + 1) (duties_later m ρ (barCell c))) $$ [Hat] with Hz
  · isplitr; · iapply (inv_bar m ρ K c); iexact HR
    iexact Hat
  ihave Hl := (landing (F := F) c) $$ Hp
  iapply Hk
  isplitl [Hxs Hys Hg Hl]
  · iapply ((six_sep _ _).trans (six_mono fun i _ => slotA_intro (F := F) c i))
    isplitr [Hl]
    · iapply (six_sep (xsAny (F := F) c) fun i => iprop(ysAny (F := F) c i ∗ slotG (F := F) c i))
      isplitl [Hxs]; · iexact Hxs
      iapply (six_sep (ysAny (F := F) c) (slotG (F := F) c))
      isplitl [Hys] <;> iassumption
    · iexact Hl
  isplitl [Hz]; · iexact Hz
  iexists _; iexact HO

end Cert.Moe

end
-- ==== Proof.Body.lean ====
/-
# The body

The kernel's body on one device, executed from the start state to the end state: the handshake, the six blocks sent, the
own share computed, the six received blocks served, the six returned products collected, the result stored, and the
sends waited for.
-/
module

public import proofs.«01_k».proof.Proof.Hand

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The ghost state device `c` starts from. -/
def ghost (K : Dev nD × Fin 25 → ℕ) (c : Dev nD) : sProp 𝕄 :=
  iprop(records m ρ K
    ∗ (dutyTok ER (barCell (rot 1 c)) 0 1 ∗ dutyTok ER (barCell (rot 2 c)) 0 2 ∗ dutyTok ER (barCell (rot 3 c)) 0 3 ∗ atPos ER (barCell c) 0 ∅ 0
      ∗ cred (tallyAt (barCell c) () 3) ∗ six (slotG (F := F) c)))
def start (c : Dev nD) : sProp 𝕄 := iprop((∃ K, ghost m ρ K c) ∗ levAts L lv)

def scratches (c : Dev nD) : sProp 𝕄 :=
  iprop(six (xsAny (F := F) c) ∗ six (xrAny (F := F) c) ∗ six (ysAny (F := F) c) ∗ six (yrAny (F := F) c))

def Φ₀ (c : Dev nD) : sProp 𝕄 := iprop(start m ρ c ∗ scratches (F := F) c)
def Φ₁ (c : Dev nD) : sProp 𝕄 := iprop(six (slotF (F := F) c) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xI m ρ c
    | ⟨1, _⟩ => rI m ρ c
    | ⟨2, _⟩ => iI m ρ c
    | ⟨3, _⟩ => eI m ρ c
    | ⟨4, _⟩ => sI m ρ c
    | ⟨5, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem fetch_in (w : Fin cfg0.W) (h : w.val < 5) (t : Fin cfg0.N) : (cfg0.win w).fetch t = true := by
  rw [fin_N t]; fin_cases w <;> first | rfl | exact absurd h (by decide)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 25 → ℕ) (c : Dev nD) : sProp 𝕄 :=
  iprop((ghost m ρ K c ∗ levAts L lv ∗ scratches (F := F) c)
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ (F := F) c ∗ (dats m ρ 0 c).owesAt () t₀.succ ∗ stg c cc0_stg0_0 (xI m ρ c) ∗ stg c cc0_stg1_0 (rI m ρ c) ∗ stg c cc0_stg2_0 (iI m ρ c)
    ∗ stg c cc0_stg3_0 (eI m ρ c) ∗ stg c cc0_stg4_0 (sI m ρ c) ∗ stg c cc0_stg5_0 (outAt m ρ c))

abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7
/-- What the loads of the whole staged buffers read, and what the store of the result leaves. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A load whose reading is known. -/
theorem ld_known (c : Dev nD) {S : Shape} {e : EltTy} {M : Memref sig .tc .vmem S e} {r : LoadRect S} {hl} {f : Buf (Elt F) (M.view.loc (c : Thread nD τ))} {v : r.shape.Idx → Elt F e}
    (hv : M.view.readAt (Elt F) r f = v)
    {α : Type} {Q : α → sProp 𝕄} {k : (r.shape.Idx → Elt F e) → Prog (TpuEff nD τ sig (Elt F) Λ₀ .tc) α} :
    ((M.view.loc (c : Thread nD τ) ↦{fullShare} f) : sProp 𝕄) ⊢ iprop(((M.view.loc (c : Thread nD τ) ↦{fullShare} f) -∗ WP c (k v) Q)
      -∗ WP c (.op (.load M r hl) k) Q) := by
  subst hv
  exact wp_load 𝒱₀ (c : Thread nD τ) none Set.univ (m := M) (Finset.subset_univ _)

/-- A store of the whole result buffer. -/
theorem st_out (c : Dev nD) {inb : ∀ a, (![0, 0] : Fin 2 → Nat) a + cc0_stg5_0.ty.shape.size a ≤ cc0_stg5_0.ty.shape.size a} {w : cc0_stg5_0.ty.Contents (Elt F)} {hx hm} {f : Buf (Elt F) ((c : Thread nD τ).loc cc0_stg5_0)}
    {α : Type} {Q : α → sProp 𝕄} {k : PUnit → Prog (TpuEff nD τ sig (Elt F) Λ₀ .tc) α} :
    (((c : Thread nD τ).loc cc0_stg5_0 ↦{fullShare} f) : sProp 𝕄) ⊢ iprop((((c : Thread nD τ).loc cc0_stg5_0 ↦{fullShare} w) -∗ WP c (k ⟨⟩) Q)
      -∗ WP c (.op (.store (Memref.whole cc0_stg5_0) (Rect.unit (s := cc0_stg5_0.ty.shape) (![0, 0] : Fin 2 → Nat) cc0_stg5_0.ty.shape.size inb) w Finset.univ hx hm) k) Q) := by
  have h := wp_store (defs := defs₀ (F := F)) 𝒱₀ (c : Thread nD τ) none (Γ := []) Set.univ (Q := Q) (m := Memref.whole cc0_stg5_0) (r := Rect.unit (s := cc0_stg5_0.ty.shape) (![0, 0] : Fin 2 → Nat) cc0_stg5_0.ty.shape.size inb) (w := w) (Mk := Finset.univ)
    (hx := hx) (hm := hm) (k := k) (f := f) (S := Finset.univ) (Finset.subset_univ _)
  rwa [Memref.write_access_unit_zero_univ (Elt F) cc0_stg5_0 hz2 _ f w] at h

theorem owes_any (c : Dev nD) (O : CellTallies nD τ sig Unit) (W : Waits sig Unit) :
    (owes (c : Thread nD τ) O W : sProp 𝕄) ⊢ iprop(∃ W, owes (c : Thread nD τ) O W) := by iintro H; iexists W; iexact H

set_option maxHeartbeats 8000000 in
set_option maxRecDepth 65536 in
theorem sound_body (K : Dev nD × Fin 25 → ℕ) (c : Dev nD) (Kt : PUnit → sProp 𝕄) :
    iprop(bodyPre m ρ K c ∗ (bodyPost m ρ c -∗ Kt ⟨⟩)) ⊢ WP c (bodyProg (F := F)) Kt := by
  unfold bodyProg
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel
  simp only [storeSubelements, semSignalWord, semWaitWord, Prog.lift, Prog.bind_op, Prog.bind_ret, Prog.pure_eq_ret, wp_deviceId]
  unfold bodyPre ghost scratches
  iintro ⟨⟨⟨⟨#HR, Hgh⟩, #Hlev, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩, Hk⟩
  have h0 : g0 = xI m ρ c := by rw [hg0]; unfold Dat.before; rw [if_pos (fetch_in 0 (by decide) t₀)]; rfl
  subst h0
  have h1 : g1 = rI m ρ c := by rw [hg1]; unfold Dat.before; rw [if_pos (fetch_in 1 (by decide) t₀)]; rfl
  subst h1
  have h2 : g2 = iI m ρ c := by rw [hg2]; unfold Dat.before; rw [if_pos (fetch_in 2 (by decide) t₀)]; rfl
  subst h2
  have h3 : g3 = eI m ρ c := by rw [hg3]; unfold Dat.before; rw [if_pos (fetch_in 3 (by decide) t₀)]; rfl
  subst h3
  have h4 : g4 = sI m ρ c := by rw [hg4]; unfold Dat.before; rw [if_pos (fetch_in 4 (by decide) t₀)]; rfl
  subst h4
  unfold Dat.owesAt Pipeline.owesWithin
  icases Ho with ⟨%W, %hW, HO⟩
  rw [show (dats m ρ 0 c).owed t₀.castSucc = oweL c allDebts from rfl]
  -- the handshake
  iapply (step_hand m ρ K c _ _ _ (Fin.ext (k0_dev1_eq c)) (Fin.ext (k0_dev2_eq c)) (Fin.ext (k0_dev3_eq c)) rfl) $$ [Hgh Hscr HO]
  · isplitr; · iexact HR
    isplitr; · iexact Hlev
    isplitl [Hgh]; · iexact Hgh
    isplitl [Hscr]; · iexact Hscr
    iexists W; iexact HO
  iintro ⟨Hs, Hz, ⟨%W₁, HO⟩⟩
  unfold six
  icases Hs with ⟨S0, S1, S2, S3, S4, S5⟩
  iapply (ld_known c (M := Memref.whole cc0_stg2_0) (Memref.readAt_unit_zero (Elt F) cc0_stg2_0 hz2 _ (iI m ρ c))) $$ H2; iintro H2
  iapply (ld_known c (M := Memref.whole cc0_stg0_0) (Memref.readAt_unit_zero (Elt F) cc0_stg0_0 hz2 _ (xI m ρ c))) $$ H0; iintro H0
  -- the six blocks sent
  iapply (step_disp m ρ K c _ 0 (by decide) (Fin.ext (k0_dev4_eq c)) rfl rfl rfl rfl [dX 1, dX 2, dX 3, dX 4, dX 5, dY 0, dY 4, dY 2, dY 1, dY 5, dY 3] W₁) $$ [S0 HO]
  · isplitr; · iexact HR
    isplitl [S0] <;> iassumption
  iintro ⟨S0, HO⟩
  iapply (step_disp m ρ K c _ 1 (by decide) (Fin.ext (k0_dev5_eq c)) rfl rfl rfl rfl [dX 2, dX 3, dX 4, dX 5, dY 0, dY 4, dY 2, dY 1, dY 5, dY 3] W₁) $$ [S1 HO]
  · isplitr; · iexact HR
    isplitl [S1] <;> iassumption
  iintro ⟨S1, HO⟩
  iapply (step_disp m ρ K c _ 2 (by decide) (Fin.ext (k0_dev6_eq c)) rfl rfl rfl rfl [dX 3, dX 4, dX 5, dY 0, dY 4, dY 2, dY 1, dY 5, dY 3] W₁) $$ [S2 HO]
  · isplitr; · iexact HR
    isplitl [S2] <;> iassumption
  iintro ⟨S2, HO⟩
  iapply (step_disp m ρ K c _ 3 (by decide) (Fin.ext (k0_dev7_eq c)) rfl rfl rfl rfl [dX 4, dX 5, dY 0, dY 4, dY 2, dY 1, dY 5, dY 3] W₁) $$ [S3 HO]
  · isplitr; · iexact HR
    isplitl [S3] <;> iassumption
  iintro ⟨S3, HO⟩
  iapply (step_disp m ρ K c _ 4 (by decide) (Fin.ext (k0_dev8_eq c)) rfl rfl rfl rfl [dX 5, dY 0, dY 4, dY 2, dY 1, dY 5, dY 3] W₁) $$ [S4 HO]
  · isplitr; · iexact HR
    isplitl [S4] <;> iassumption
  iintro ⟨S4, HO⟩
  iapply (step_disp m ρ K c _ 5 (by decide) (Fin.ext (k0_dev9_eq c)) rfl rfl rfl rfl [dY 0, dY 4, dY 2, dY 1, dY 5, dY 3] W₁) $$ [S5 HO]
  · isplitr; · iexact HR
    isplitl [S5] <;> iassumption
  iintro ⟨S5, HO⟩
  -- the own share
  iapply (ld_known c (M := Memref.whole cc0_stg1_0) (Memref.readAt_unit_zero (Elt F) cc0_stg1_0 hz2 _ (rI m ρ c))) $$ H1; iintro H1
  iapply (ld_known c (M := Memref.whole cc0_stg3_0) (Memref.readAt_unit_zero (Elt F) cc0_stg3_0 hz3 _ (eI m ρ c))) $$ H3; iintro H3
  iapply (ld_known c (M := Memref.whole cc0_stg4_0) (Memref.readAt_unit_zero (Elt F) cc0_stg4_0 hz2 _ (sI m ρ c))) $$ H4; iintro H4
  ihave HO := (owes_any (F := F) c _ W₁) $$ HO
  -- the six received blocks served
  iapply (step_serve m ρ K c _ 0 (by decide) (Fin.ext (k0_dev10_eq c)) rfl rfl rfl (pay := fun xb bb => yOf (eI m ρ c) xb bb) rfl [dY 4, dY 2, dY 1, dY 5, dY 3] (by decide)) $$ [S0 HO]
  · isplitr; · iexact HR
    isplitr; · iexact Hlev
    isplitl [S0] <;> iassumption
  iintro ⟨S0, HO⟩
  iapply (step_serve m ρ K c _ 4 (by decide) (Fin.ext (k0_dev11_eq c)) rfl rfl rfl (pay := fun xb bb => yOf (eI m ρ c) xb bb) rfl [dY 2, dY 1, dY 5, dY 3] (by decide)) $$ [S4 HO]
  · isplitr; · iexact HR
    isplitr; · iexact Hlev
    isplitl [S4] <;> iassumption
  iintro ⟨S4, HO⟩
  iapply (step_serve m ρ K c _ 2 (by decide) (Fin.ext (k0_dev12_eq c)) rfl rfl rfl (pay := fun xb bb => yOf (eI m ρ c) xb bb) rfl [dY 1, dY 5, dY 3] (by decide)) $$ [S2 HO]
  · isplitr; · iexact HR
    isplitr; · iexact Hlev
    isplitl [S2] <;> iassumption
  iintro ⟨S2, HO⟩
  iapply (step_serve m ρ K c _ 1 (by decide) (Fin.ext (k0_dev13_eq c)) rfl rfl rfl (pay := fun xb bb => yOf (eI m ρ c) xb bb) rfl [dY 5, dY 3] (by decide)) $$ [S1 HO]
  · isplitr; · iexact HR
    isplitr; · iexact Hlev
    isplitl [S1] <;> iassumption
  iintro ⟨S1, HO⟩
  iapply (step_serve m ρ K c _ 5 (by decide) (Fin.ext (k0_dev14_eq c)) rfl rfl rfl (pay := fun xb bb => yOf (eI m ρ c) xb bb) rfl [dY 3] (by decide)) $$ [S5 HO]
  · isplitr; · iexact HR
    isplitr; · iexact Hlev
    isplitl [S5] <;> iassumption
  iintro ⟨S5, HO⟩
  iapply (step_serve m ρ K c _ 3 (by decide) (Fin.ext (k0_dev15_eq c)) rfl rfl rfl (pay := fun xb bb => yOf (eI m ρ c) xb bb) rfl [] (by decide)) $$ [S3 HO]
  · isplitr; · iexact HR
    isplitr; · iexact Hlev
    isplitl [S3] <;> iassumption
  iintro ⟨S3, HO⟩
  -- the six returned products collected
  iapply (step_coll m ρ K c 0 (by decide) rfl) $$ [S0 HO]
  · isplitr; · iexact HR
    isplitr; · iexact Hlev
    isplitl [S0] <;> iassumption
  iintro ⟨S0, HO⟩
  iapply (step_coll m ρ K c 4 (by decide) rfl) $$ [S4 HO]
  · isplitr; · iexact HR
    isplitr; · iexact Hlev
    isplitl [S4] <;> iassumption
  iintro ⟨S4, HO⟩
  iapply (step_coll m ρ K c 2 (by decide) rfl) $$ [S2 HO]
  · isplitr; · iexact HR
    isplitr; · iexact Hlev
    isplitl [S2] <;> iassumption
  iintro ⟨S2, HO⟩
  iapply (step_coll m ρ K c 1 (by decide) rfl) $$ [S1 HO]
  · isplitr; · iexact HR
    isplitr; · iexact Hlev
    isplitl [S1] <;> iassumption
  iintro ⟨S1, HO⟩
  iapply (step_coll m ρ K c 5 (by decide) rfl) $$ [S5 HO]
  · isplitr; · iexact HR
    isplitr; · iexact Hlev
    isplitl [S5] <;> iassumption
  iintro ⟨S5, HO⟩
  iapply (step_coll m ρ K c 3 (by decide) rfl) $$ [S3 HO]
  · isplitr; · iexact HR
    isplitr; · iexact Hlev
    isplitl [S3] <;> iassumption
  iintro ⟨S3, HO⟩
  -- the result stored
  iapply (ld_known c (M := Memref.whole cc0_stg5_0) (Memref.readAt_unit_zero (Elt F) cc0_stg5_0 hz2 _ g5)) $$ H5; iintro H5
  iapply (st_out c) $$ H5; iintro H5
  -- the sends waited for
  iapply (step_fin1 m ρ K c 0 (by decide) rfl) $$ [S0 HO]
  · isplitr; · iexact HR
    isplitr; · iexact Hlev
    isplitl [S0] <;> iassumption
  iintro ⟨S0, HO⟩
  iapply (step_fin1 m ρ K c 1 (by decide) rfl) $$ [S1 HO]
  · isplitr; · iexact HR
    isplitr; · iexact Hlev
    isplitl [S1] <;> iassumption
  iintro ⟨S1, HO⟩
  iapply (step_fin1 m ρ K c 2 (by decide) rfl) $$ [S2 HO]
  · isplitr; · iexact HR
    isplitr; · iexact Hlev
    isplitl [S2] <;> iassumption
  iintro ⟨S2, HO⟩
  iapply (step_fin1 m ρ K c 3 (by decide) rfl) $$ [S3 HO]
  · isplitr; · iexact HR
    isplitr; · iexact Hlev
    isplitl [S3] <;> iassumption
  iintro ⟨S3, HO⟩
  iapply (step_fin1 m ρ K c 4 (by decide) rfl) $$ [S4 HO]
  · isplitr; · iexact HR
    isplitr; · iexact Hlev
    isplitl [S4] <;> iassumption
  iintro ⟨S4, HO⟩
  iapply (step_fin1 m ρ K c 5 (by decide) rfl) $$ [S5 HO]
  · isplitr; · iexact HR
    isplitr; · iexact Hlev
    isplitl [S5] <;> iassumption
  iintro ⟨S5, HO⟩
  iapply (step_fin2 m ρ K c 0 (by decide) rfl) $$ [S0 HO]
  · isplitr; · iexact HR
    isplitr; · iexact Hlev
    isplitl [S0] <;> iassumption
  iintro ⟨S0, HO⟩
  iapply (step_fin2 m ρ K c 1 (by decide) rfl) $$ [S1 HO]
  · isplitr; · iexact HR
    isplitr; · iexact Hlev
    isplitl [S1] <;> iassumption
  iintro ⟨S1, HO⟩
  iapply (step_fin2 m ρ K c 2 (by decide) rfl) $$ [S2 HO]
  · isplitr; · iexact HR
    isplitr; · iexact Hlev
    isplitl [S2] <;> iassumption
  iintro ⟨S2, HO⟩
  iapply (step_fin2 m ρ K c 3 (by decide) rfl) $$ [S3 HO]
  · isplitr; · iexact HR
    isplitr; · iexact Hlev
    isplitl [S3] <;> iassumption
  iintro ⟨S3, HO⟩
  iapply (step_fin2 m ρ K c 4 (by decide) rfl) $$ [S4 HO]
  · isplitr; · iexact HR
    isplitr; · iexact Hlev
    isplitl [S4] <;> iassumption
  iintro ⟨S4, HO⟩
  iapply (step_fin2 m ρ K c 5 (by decide) rfl) $$ [S5 HO]
  · isplitr; · iexact HR
    isplitr; · iexact Hlev
    isplitl [S5] <;> iassumption
  iintro ⟨S5, HO⟩
  icases HO with ⟨%W₂, HO⟩
  unfold WP; rw [wp_ret]; imodintro
  iapply Hk
  unfold bodyPost Φ₁ six Dat.owesAt Pipeline.owesWithin
  rw [show (dats m ρ 0 c).owed t₀.succ = 0 from rfl]
  isplitl [S0 S1 S2 S3 S4 S5 Hz]
  · isplitr [Hz]
    · isplitl [S0]; · iexact S0
      isplitl [S1]; · iexact S1
      isplitl [S2]; · iexact S2
      isplitl [S3]; · iexact S3
      isplitl [S4]; · iexact S4
      iexact S5
    iexact Hz
  isplitl [HO]
  · iexists W₂; isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; rotate_left; · iexact H5
  ipureintro; rfl

end Cert.Moe

end
-- ==== Proof.Launch.lean ====
/-
# The launch

The body's obligation met, the cells and tokens of the exchange minted and dealt out, the launch's credit, and the run
of the whole program on the four devices.
-/
module

public import proofs.«01_k».proof.Proof.Body
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

set_option maxRecDepth 20000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

set_option maxRecDepth 20000 in
/-- The body meets the launch's obligation on every device. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ bodyProg (fun _ => bodyPost m ρ c)
  unfold bodyPre' Φ₀ start
  iintro ⟨⟨⟨⟨%K, Hg⟩, Hlev⟩, Hscr⟩, Hrest⟩
  iapply (sound_body m ρ K c fun _ => bodyPost m ρ c)
  unfold bodyPre
  isplitr []
  · isplitl [Hg Hlev Hscr]
    · isplitl [Hg]; · iexact Hg
      isplitl [Hlev]; · iexact Hlev
      iexact Hscr
    iexact Hrest
  · iintro H; iexact H

/-! ## The cells of a device -/

theorem reassoc (P Q R : sProp 𝕄) : iprop((P ∗ Q) ∗ R) = iprop(P ∗ Q ∗ R) := by
  refine equiv_iff.mp ⟨show iprop((P ∗ Q) ∗ R) ⊢ iprop(P ∗ Q ∗ R) from ?_, show iprop(P ∗ Q ∗ R) ⊢ iprop((P ∗ Q) ∗ R) from ?_⟩
  · iintro ⟨⟨HP, HQ⟩, HR⟩
    isplitl [HP]; · iexact HP
    isplitl [HQ] <;> iassumption
  · iintro ⟨HP, HQ, HR⟩
    isplitr [HR]
    · isplitl [HP] <;> iassumption
    iexact HR

/-- The kernel's own semaphores: the 24 of its four arrays. -/
abbrev osem : Fin 24 → SemLoc sig := fun k => .dma (dsem 0 k.val)
theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 25 → GSem nD τ sig) := by
  intro a b h
  exact Prod.ext (congrArg (fun g : GSem nD τ sig => g.1.1) h) (csem_injective (congrArg Prod.snd h))

/-- The cells of the exchange. -/
def allCells : Finset (GSem nD τ sig) := Finset.univ.map ⟨kcell, kcell_injective⟩

/-- A device's duties: the barrier's three, then one per DMA cell. -/
abbrev tokOf (x : Dev nD × Fin 27) : GSem nD τ sig × ℕ × Fin 4 :=
  (kcell (x.1, if x.2.val < 3 then 0 else ⟨(x.2.val - 2) % 25, Nat.mod_lt _ (by decide)⟩), 0, if h : x.2.val < 3 then ⟨x.2.val + 1, by omega⟩ else 0)
theorem tok_pair_injective : Function.Injective fun j : Fin 27 =>
    ((if j.val < 3 then 0 else ⟨(j.val - 2) % 25, Nat.mod_lt _ (by decide)⟩ : Fin 25), (if h : j.val < 3 then ⟨j.val + 1, by omega⟩ else 0 : Fin 4)) := by decide
theorem tokOf_injective : Function.Injective tokOf := by
  intro a b h
  have h1 := kcell_injective (congrArg Prod.fst h)
  have h2 := congrArg (fun x : GSem nD τ sig × ℕ × Fin 4 => x.2.2) h
  have h3 : a.1 = b.1 := congrArg (fun x : Dev nD × Fin 25 => x.1) h1
  have h4 := congrArg (fun x : Dev nD × Fin 25 => x.2) h1
  exact Prod.ext h3 (tok_pair_injective (Prod.ext h4 h2))
def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- A family over a device's cells, as the barrier's and four sixes. -/
theorem cells_eq (Ψ : GSem nD τ sig → sProp 𝕄) (c : Dev nD) :
    bigSep Finset.univ (fun k : Fin 25 => Ψ (kcell (c, k)))
      = iprop(Ψ (barCell c) ∗ six (fun i => Ψ (dcell 0 i c)) ∗ six (fun i => Ψ (dcell 1 i c)) ∗ six (fun i => Ψ (dcell 2 i c)) ∗ six (fun i => Ψ (dcell 3 i c))) := by
  rw [bigSep_univ_eq_bigSepL [0, 1, 2, 3, 4, 5, 6, 7, 8, 9, 10, 11, 12, 13, 14, 15, 16, 17, 18, 19, 20, 21, 22, 23, 24] (by decide) (by decide)]
  unfold six; simp only [reassoc]; rfl

/-- The duty tokens of device `c`'s own cells. -/
def toks (c : Dev nD) : sProp 𝕄 :=
  iprop(dutyTok ER (barCell c) 0 1 ∗ dutyTok ER (barCell c) 0 2 ∗ dutyTok ER (barCell c) 0 3
    ∗ six (fun i => dutyTok ER (dcell 0 i c) 0 0) ∗ six (fun i => dutyTok ER (dcell 1 i c) 0 0) ∗ six (fun i => dutyTok ER (dcell 2 i c) 0 0)
    ∗ six (fun i => dutyTok ER (dcell 3 i c) 0 0))
theorem toks_eq (c : Dev nD) :
    bigSep Finset.univ (fun j : Fin 27 => (dutyTok ER (tokOf (c, j)).1 (tokOf (c, j)).2.1 (tokOf (c, j)).2.2 : sProp 𝕄)) = toks c := by
  rw [bigSep_univ_eq_bigSepL [0, 1, 2, 3, 4, 5, 6, 7, 8, 9, 10, 11, 12, 13, 14, 15, 16, 17, 18, 19, 20, 21, 22, 23, 24, 25, 26] (by decide) (by decide)]
  unfold toks six; simp only [reassoc]; rfl

theorem ownSems0_eq (c : Dev nD) : (Pipeline.ownSems0 (Ix := Unit) (Name := ℕ) (U := UU) (Lvl := ℕ) (Val := Elt F) (τ := τ) osem c : sProp 𝕄)
    = iprop(six (fun i => semVal (dcell 0 i c) 0) ∗ six (fun i => semVal (dcell 1 i c) 0) ∗ six (fun i => semVal (dcell 2 i c) 0) ∗ six (fun i => semVal (dcell 3 i c) 0)) := by
  rw [Pipeline.ownSems0_eq_of_list c osem [0, 1, 2, 3, 4, 5, 6, 7, 8, 9, 10, 11, 12, 13, 14, 15, 16, 17, 18, 19, 20, 21, 22, 23] (by decide) (by decide)]
  unfold six; simp only [reassoc]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Minting -/

/-- What the launch element deals device `c`. -/
def G (c : Dev nD) : sProp 𝕄 :=
  iprop((bigSep Finset.univ fun k : Fin 25 => roundState ER (sched m ρ) (kcell (c, k)) 0)
    ∗ ((bigSep Finset.univ fun k : Fin 25 => atPos ER (kcell (c, k)) 0 ∅ 0) ∗ bigSep Finset.univ fun k : Fin 25 => reached ER (kcell (c, k)) 0) ∗ toks c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 25 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched m ρ) allCells allToks) $$ HX with ⟨Hst, Hr, Hat, Htok⟩
  imodintro
  unfold G; simp only [bigSep_sep']
  rw [← hX fun g => roundState ER (sched m ρ) g 0, ← hX fun g => atPos ER g 0 ∅ 0, ← hX fun g => reached ER g 0, ← hT]
  isplitl [Hst]; · iexact Hst
  isplitl [Hat Hr]
  · isplitl [Hat] <;> iassumption
  iexact Htok

/-- Every cell of a device becomes an invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ ((bigSep Finset.univ fun k : Fin 25 => atPos ER (kcell (c, k)) 0 ∅ 0) ∗ bigSep Finset.univ fun k : Fin 25 => reached ER (kcell (c, k)) 0) ∗ toks c) := by
  unfold G
  iintro ⟨Hos, Hus, Hst, Hat, Htok⟩
  imod (show iprop((bigSep Finset.univ fun k : Fin 25 => semVal (kcell (c, k)) 0) ∗ bigSep Finset.univ fun k : Fin 25 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hos Hus Hst] with Hinv
  · isplitl [Hos Hus]
    · rw [cells_eq (fun g => semVal g 0), ← unscopedSems0_eq, ← ownSems0_eq]
      isplitl [Hus]; · iexact Hus
      iexact Hos
    iexact Hst
  imodintro
  isplitl [Hinv]; · iexact Hinv
  isplitl [Hat]; · iexact Hat
  iexact Htok

/-! ## Dealing -/

/-- What device `c` holds of the ghost state: the tokens of the duties it pays, and its own positions. -/
def dealt (c : Dev nD) : sProp 𝕄 :=
  iprop((bigSep Finset.univ fun k : Fin 25 => atPos ER (kcell (c, k)) 0 ∅ 0)
    ∗ dutyTok ER (barCell (rot 1 c)) 0 1 ∗ dutyTok ER (barCell (rot 2 c)) 0 2 ∗ dutyTok ER (barCell (rot 3 c)) 0 3
    ∗ six (fun i => dutyTok ER (dcell 0 i c) 0 0) ∗ six (fun i => dutyTok ER (dcell 1 i (rot (kk i) c)) 0 0) ∗ six (fun i => dutyTok ER (dcell 2 i c) 0 0)
    ∗ six (fun i => dutyTok ER (dcell 3 i (rot (4 - kk i) c)) 0 0))

/-- The ghost state of the launch after the dealing. -/
def G' (c : Dev nD) : sProp 𝕄 := iprop(∃ K, records m ρ K ∗ dealt (F := F) c)

/-- A family dealt around by `k` places. -/
theorem around (k : ℕ) (hk : k ≤ 4) (Φ : Dev nD → sProp 𝕄) : bigSep Finset.univ Φ = bigSep Finset.univ fun c : Dev nD => Φ (rot k c) :=
  bigSep_univ_equiv (rotE ⟨k, by omega⟩) Φ
/-- Six families dealt around, each by its own number of places. -/
theorem around6 (e : ℕ → ℕ) (he : ∀ i, i < 6 → e i ≤ 4) (Φ : ℕ → Dev nD → sProp 𝕄) :
    (bigSep Finset.univ fun c : Dev nD => six fun i => Φ i c) = bigSep Finset.univ fun c : Dev nD => six fun i => Φ i (rot (e i) c) := by
  unfold six
  simp only [bigSep_sep']
  rw [around (e 0) (he 0 (by decide)) (Φ 0), around (e 1) (he 1 (by decide)) (Φ 1), around (e 2) (he 2 (by decide)) (Φ 2),
    around (e 3) (he 3 (by decide)) (Φ 3), around (e 4) (he 4 (by decide)) (Φ 4), around (e 5) (he 5 (by decide)) (Φ 5)]

theorem toks_around : (bigSep Finset.univ fun c : Dev nD => (toks c : sProp 𝕄)) ⊢ bigSep Finset.univ fun c : Dev nD =>
    iprop(dutyTok ER (barCell (rot 1 c)) 0 1 ∗ dutyTok ER (barCell (rot 2 c)) 0 2 ∗ dutyTok ER (barCell (rot 3 c)) 0 3
      ∗ six (fun i => dutyTok ER (dcell 0 i c) 0 0) ∗ six (fun i => dutyTok ER (dcell 1 i (rot (kk i) c)) 0 0) ∗ six (fun i => dutyTok ER (dcell 2 i c) 0 0)
      ∗ six (fun i => dutyTok ER (dcell 3 i (rot (4 - kk i) c)) 0 0)) := by
  unfold toks
  simp only [bigSep_sep']
  rw [around 1 (by decide) (fun c => dutyTok ER (barCell c) 0 1), around 2 (by decide) (fun c => dutyTok ER (barCell c) 0 2), around 3 (by decide) (fun c => dutyTok ER (barCell c) 0 3),
    around6 kk (fun i hi => by unfold kk; omega) (fun i c => dutyTok ER (dcell 1 i c) 0 0),
    around6 (fun i => 4 - kk i) (fun i hi => by omega) (fun i c => dutyTok ER (dcell 3 i c) 0 0)]

theorem dealt_intro : iprop((bigSep Finset.univ fun c : Dev nD => bigSep Finset.univ fun k : Fin 25 => atPos ER (kcell (c, k)) 0 ∅ 0)
      ∗ bigSep Finset.univ fun c : Dev nD =>
    iprop(dutyTok ER (barCell (rot 1 c)) 0 1 ∗ dutyTok ER (barCell (rot 2 c)) 0 2 ∗ dutyTok ER (barCell (rot 3 c)) 0 3
      ∗ six (fun i => dutyTok ER (dcell 0 i c) 0 0) ∗ six (fun i => dutyTok ER (dcell 1 i (rot (kk i) c)) 0 0) ∗ six (fun i => dutyTok ER (dcell 2 i c) 0 0)
      ∗ six (fun i => dutyTok ER (dcell 3 i (rot (4 - kk i) c)) 0 0)))
    ⊢ (bigSep Finset.univ (dealt (F := F)) : sProp 𝕄) := by
  rw [← bigSep_sep']; exact .rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ ((bigSep Finset.univ fun k : Fin 25 => atPos ER (kcell (c, k)) 0 ∅ 0) ∗ bigSep Finset.univ fun k : Fin 25 => reached ER (kcell (c, k)) 0) ∗ toks c) : sProp 𝕄)
      ⊢ bigSep Finset.univ (G' m ρ) := by
  simp only [bigSep_sep']
  rw [← bigSep_univ_prod (fun ck : Dev nD × Fin 25 => iprop(∃ κ : ℕ, cellInv ER (sched m ρ) κ (kcell ck))),
    ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (sched m ρ) κ (kcell ck) : sProp 𝕄))) $$ HI
  icases HK with ⟨%K, #HI⟩
  ihave Htk := (toks_around (F := F)) $$ Htok
  iapply (with_persistent (R := records m ρ K) (Φ := dealt (F := F)) fun c _ => by
    unfold G'; iintro ⟨H1, H2⟩; iexists K; isplitl [H1] <;> iassumption)
  isplitr
  · unfold records; isplitl; · iexact HI
    iexact HR
  · iapply (dealt_intro (F := F))
    isplitl [Hat]; · iexact Hat
    iexact Htk

/-- The launch's global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a list of debts comes to on one semaphore. -/
def owedTo (l : List Debt) (sm : SemLoc sig) : ℕ := l.foldr (fun x acc => acc + if sm = x.2.1 then x.2.2 else 0) 0

/-- The four devices' debts to one cell: each debt falls due from exactly one device. -/
theorem sum_oweL (l : List Debt) (h : ∀ x ∈ l, x.1 ≤ 4) (c : Dev nD) (sm : SemLoc sig) :
    ∑ d : Dev nD, oweL d l ((c : Thread nD τ), sm) () = owedTo l sm := by
  induction l with
  | nil => exact Finset.sum_const_zero
  | cons x l ih =>
    have hx := h x List.mem_cons_self
    show ∑ d : Dev nD, (oweL d l + tallyAt (((rot x.1 d : Dev nD) : Thread nD τ), x.2.1) () x.2.2) ((c : Thread nD τ), sm) () = owedTo l sm + _
    simp only [Pi.add_apply, Finsupp.add_apply, Finset.sum_add_distrib, ih fun y hy => h y (List.mem_cons_of_mem _ hy)]
    congr 1
    simp only [tallyAt_apply]
    by_cases hs : sm = x.2.1
    · rw [if_pos hs, Finset.sum_eq_single (rot (4 - x.1) c)]
      · rw [if_pos ⟨by rw [hs, rot_rot x.1 (4 - x.1) c (by omega)], trivial⟩]
      · intro d _ hd
        rw [if_neg]
        rintro ⟨h1, -⟩
        have h2 : c = rot x.1 d := congrArg (fun g : GSem nD τ sig => g.1.1) h1
        exact hd (by rw [h2, rot_rot (4 - x.1) x.1 d (by omega)])
      · exact fun h => absurd (Finset.mem_univ _) h
    · rw [if_neg hs]
      refine Finset.sum_eq_zero fun d _ => if_neg ?_
      rintro ⟨h1, -⟩
      exact hs (congrArg Prod.snd h1)

theorem allDebts_le : ∀ x ∈ allDebts, x.1 ≤ 4 := by
  intro x hx
  simp only [allDebts, List.mem_cons, List.not_mem_nil, or_false] at hx
  rcases hx with h | h | h | h | h | h | h | h | h | h | h | h | h | h | h <;> subst h <;> decide

theorem credit_at (c : Dev nD) (sm : SemLoc sig) :
    tallyOn ((c : Thread nD τ), sm) (launchCredit (Pipeline.owing O₀) 0 ((c : Thread nD τ), sm))
      = (tallyAt ((c : Thread nD τ), sm) () (owedTo allDebts sm) : CellTallies nD τ sig Unit) := by
  unfold tallyAt; refine congrArg _ (Finsupp.ext fun u => ?_); cases u
  rw [Pipeline.launchCredit_owing, Finsupp.single_eq_same]
  exact sum_oweL allDebts allDebts_le c sm

theorem owed_bar : owedTo allDebts (.reg barS) = 3 := by
  simp [owedTo, allDebts]
theorem dma_ne_bar (q : DmaSem sig) : (SemLoc.dma q : SemLoc sig) ≠ .reg barS := fun h => by cases h
theorem owed_r1 (i : ℕ) (hi : i < 6) : owedTo allDebts (.dma (dsem 1 i)) = NX := by
  generalize hx : NX = x; generalize hy : NY = y
  unfold owedTo allDebts dX dY; rw [hx, hy]
  have h : i = 0 ∨ i = 1 ∨ i = 2 ∨ i = 3 ∨ i = 4 ∨ i = 5 := by omega
  rcases h with h | h | h | h | h | h <;> subst h <;> simp [dsem]
theorem owed_r2 (i : ℕ) (hi : i < 6) : owedTo allDebts (.dma (dsem 3 i)) = NY := by
  generalize hx : NX = x; generalize hy : NY = y
  unfold owedTo allDebts dX dY; rw [hx, hy]
  have h : i = 0 ∨ i = 1 ∨ i = 2 ∨ i = 3 ∨ i = 4 ∨ i = 5 := by omega
  rcases h with h | h | h | h | h | h <;> subst h <;> simp [dsem]

/-- What device `c` is owed at the launch: three barrier units, and the twelve transfers it will receive. -/
theorem creds (c : Dev nD) :
    (Pipeline.launchCred O₀ c : sProp 𝕄) ⊢ iprop(cred (tallyAt (barCell c) () 3) ∗ six (fun i => cred (tallyAt (dcell 1 i c) () NX))
      ∗ six (fun i => cred (tallyAt (dcell 3 i c) () NY))) := by
  unfold Pipeline.launchCred
  refine (bigSep_subset (Finset.subset_univ (Finset.univ.map ⟨csem, csem_injective⟩))).trans ?_
  rw [bigSep_map]
  refine (Entails.of_eq (cells_eq (fun g => cred (tallyOn g (launchCredit (Pipeline.owing O₀) 0 g))) c)).trans ?_
  iintro ⟨HB, -, H1, -, H3⟩
  isplitl [HB]
  · rw [credit_at, owed_bar]; iexact HB
  isplitl [H1]
  · iapply (show (six fun i => (cred (tallyOn (dcell 1 i c) (launchCredit (Pipeline.owing O₀) 0 (dcell 1 i c))) : sProp 𝕄)) ⊢ _ from
      six_mono fun i hi => by rw [credit_at, owed_r1 i hi]); iexact H1
  · iapply (show (six fun i => (cred (tallyOn (dcell 3 i c) (launchCredit (Pipeline.owing O₀) 0 (dcell 3 i c))) : sProp 𝕄)) ⊢ _ from
      six_mono fun i hi => by rw [credit_at, owed_r2 i hi]); iexact H3

/-! ## The launch's side conditions -/

/-- The slots' ghost state, from its parts. -/
theorem slotG_intro (c : Dev nD) :
    iprop(six (fun i => dutyTok ER (dcell 0 i c) 0 0) ∗ six (fun i => dutyTok ER (dcell 1 i (rot (kk i) c)) 0 0)
        ∗ six (fun i => atPos ER (dcell 0 i c) 0 ∅ 0) ∗ six (fun i => atPos ER (dcell 1 i c) 0 ∅ 0) ∗ six (fun i => cred (tallyAt (dcell 1 i c) () NX))
        ∗ six (fun i => dutyTok ER (dcell 2 i c) 0 0) ∗ six (fun i => dutyTok ER (dcell 3 i (rot (4 - kk i) c)) 0 0)
        ∗ six (fun i => atPos ER (dcell 2 i c) 0 ∅ 0) ∗ six (fun i => atPos ER (dcell 3 i c) 0 ∅ 0) ∗ six (fun i => cred (tallyAt (dcell 3 i c) () NY)))
      ⊢ (six (slotG (F := F) c) : sProp 𝕄) := by
  simp only [← six_eq]
  rw [← bigSep_sep', ← bigSep_sep', ← bigSep_sep', ← bigSep_sep', ← bigSep_sep', ← bigSep_sep', ← bigSep_sep', ← bigSep_sep', ← bigSep_sep']
  exact .rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HcB, Hc1, Hc3⟩
  unfold G'
  icases HG with ⟨%K, HR, Hd⟩
  unfold dealt
  rw [cells_eq (fun g => atPos ER g 0 ∅ 0)]
  icases Hd with ⟨⟨HaB, Ha0, Ha1, Ha2, Ha3⟩, Ht1, Ht2, Ht3, Hd0, Hd1, Hd2, Hd3⟩
  imodintro
  isplitl
  · unfold start ghost
    isplitr [Hlev]
    · iexists K
      isplitl [HR]; · iexact HR
      isplitl [Ht1]; · iexact Ht1
      isplitl [Ht2]; · iexact Ht2
      isplitl [Ht3]; · iexact Ht3
      isplitl [HaB]; · iexact HaB
      isplitl [HcB]; · iexact HcB
      iapply (slotG_intro (F := F) c)
      isplitl [Hd0]; · iexact Hd0
      isplitl [Hd1]; · iexact Hd1
      isplitl [Ha0]; · iexact Ha0
      isplitl [Ha1]; · iexact Ha1
      isplitl [Hc1]; · iexact Hc1
      isplitl [Hd2]; · iexact Hd2
      isplitl [Hd3]; · iexact Hd3
      isplitl [Ha2]; · iexact Ha2
      isplitl [Ha3]; · iexact Ha3
      iexact Hc3
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, H0, H1, H2, H3⟩
  isplitl [Hs]; · iexact Hs
  isplitl [H0]; · iapply (split_xs (F := F) c); iexact H0
  isplitl [H1]; · iapply (split_xr (F := F) c); iexact H1
  isplitl [H2]; · iapply (split_ys (F := F) c); iexact H2
  iapply (split_yr (F := F) c); iexact H3

/-- The slots' end states, taken apart. -/
theorem slotF_elim (c : Dev nD) : (six (slotF (F := F) c) : sProp 𝕄)
    ⊢ iprop(six (fun i => semVal (dcell 0 i c) 0) ∗ six (xsAny (F := F) c) ∗ six (fun i => semVal (dcell 1 i c) 0) ∗ six (xrAny (F := F) c)
        ∗ six (fun i => semVal (dcell 2 i c) 0) ∗ six (ysAny (F := F) c) ∗ six (fun i => semVal (dcell 3 i c) 0) ∗ six (yrAny (F := F) c)) := by
  simp only [← six_eq]
  rw [← bigSep_sep', ← bigSep_sep', ← bigSep_sep', ← bigSep_sep', ← bigSep_sep', ← bigSep_sep', ← bigSep_sep']
  exact .rfl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁
  iintro ⟨Hs, HB⟩
  ihave Hs := (slotF_elim (F := F) c) $$ Hs
  icases Hs with ⟨V0, Xs, V1, Xr, V2, Ys, V3, Yr⟩
  isplitl [HB]; · iexact HB
  isplitl [V0 V1 V2 V3]
  · isplitl [V0]; · iexact V0
    isplitl [V1]; · iexact V1
    isplitl [V2]; · iexact V2
    iexact V3
  isplitl [Xs]; · iapply (join_xs (F := F) c); iexact Xs
  isplitl [Xr]; · iapply (join_xr (F := F) c); iexact Xr
  isplitl [Ys]; · iapply (join_ys (F := F) c); iexact Ys
  iapply (join_yr (F := F) c); iexact Yr

theorem wait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine mayWait c _ allDebts fun x hx => ?_
    have h0 : lvS (.dma q) = 0 := by unfold lvS; exact if_pos (by omega)
    rw [h0]
    simp only [allDebts, List.mem_cons, List.not_mem_nil, or_false] at hx
    rcases hx with h | h | h | h | h | h | h | h | h | h | h | h | h | h | h <;> subst h <;> decide
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the four devices, over any values of the floats and from any memory with zero counters, every run of the program
    ends, with each device's arrays as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
# What the run leaves in the arrays

The program's run read at its arrays: the five arguments as they were, the result array the computed block, and every
counter at zero — over any values of the floats, then at the two programs and the reference.
-/
module

public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Kernel
public import proofs.«01_k».proof.ReferenceIdeal
public import Idealize.ShloMosaic.PureOps.BitExact
public import Idealize.ShloMosaic.PureOps.Ideal
public import Idealize.ShloMosaic.Lib.Pipeline.Value

@[expose] public section

noncomputable section

namespace Cert.Moe

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-! ## The blocks are the whole arrays -/

theorem xI_eq (c : Dev nD) : xI m ρ c = m ((c : Thread nD τ).loc main_arg0) := by
  refine funext fun j => congrArg (m ((c : Thread nD τ).loc main_arg0)) (funext fun a => Fin.ext ?_)
  have h : ∀ a, (win0_0.rect (0 : Fin 1)).off a = 0 := by decide +kernel
  show (win0_0.rect (0 : Fin 1)).off a + 1 * (j a).val = (j a).val
  rw [h a]; omega

theorem rI_eq (c : Dev nD) : rI m ρ c = m ((c : Thread nD τ).loc main_arg1) := by
  refine funext fun j => congrArg (m ((c : Thread nD τ).loc main_arg1)) (funext fun a => Fin.ext ?_)
  have h : ∀ a, (win0_1.rect (0 : Fin 1)).off a = 0 := by decide +kernel
  show (win0_1.rect (0 : Fin 1)).off a + 1 * (j a).val = (j a).val
  rw [h a]; omega

theorem iI_eq (c : Dev nD) : iI m ρ c = m ((c : Thread nD τ).loc main_arg2) := by
  refine funext fun j => congrArg (m ((c : Thread nD τ).loc main_arg2)) (funext fun a => Fin.ext ?_)
  have h : ∀ a, (win0_2.rect (0 : Fin 1)).off a = 0 := by decide +kernel
  show (win0_2.rect (0 : Fin 1)).off a + 1 * (j a).val = (j a).val
  rw [h a]; omega

theorem eI_eq (c : Dev nD) : eI m ρ c = m ((c : Thread nD τ).loc main_arg3) := by
  refine funext fun j => congrArg (m ((c : Thread nD τ).loc main_arg3)) (funext fun a => Fin.ext ?_)
  have h : ∀ a, (win0_3.rect (0 : Fin 1)).off a = 0 := by decide +kernel
  show (win0_3.rect (0 : Fin 1)).off a + 1 * (j a).val = (j a).val
  rw [h a]; omega

theorem sI_eq (c : Dev nD) : sI m ρ c = m ((c : Thread nD τ).loc main_arg4) := by
  refine funext fun j => congrArg (m ((c : Thread nD τ).loc main_arg4)) (funext fun a => Fin.ext ?_)
  have h : ∀ a, (win0_4.rect (0 : Fin 1)).off a = 0 := by decide +kernel
  show (win0_4.rect (0 : Fin 1)).off a + 1 * (j a).val = (j a).val
  rw [h a]; omega

theorem blk_out (X : Buf (Elt F) (((0 : Dev nD) : Thread nD τ).loc main_v1)) :
    (win0_5.blk (0 : Fin 1)).view.read (Elt F) X = X := by
  refine funext fun j => congrArg X (funext fun a => Fin.ext ?_)
  have h : ∀ a, (win0_5.rect (0 : Fin 1)).off a = 0 := by decide +kernel
  show (win0_5.rect (0 : Fin 1)).off a + 1 * (j a).val = (j a).val
  rw [h a]; omega

/-! ## The result array -/

/-- The result array after the run: the computed block. -/
theorem final_out (c : Dev nD) : finalA m ρ c (5 : Fin 6) = outAt m ρ c := by
  have h : (win0_5.blk (0 : Fin 1)).view.read (Elt F) (finalA m ρ c (5 : Fin 6)) = outAt m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (blk_out (finalA m ρ c (5 : Fin 6))).symm.trans h

/-! ## The run, read at the arrays -/

/-- The run at the arrays: each device's result is its computed block, its arguments are as they were, and every counter
    is at zero. -/
theorem run_arrays : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c (5 : Fin 6)).trans (final_out m ρ c),
       (h.1 c (0 : Fin 6)).trans ((dats (F := F) m ρ 0 c).arrAt_in (0 : Fin 6) rfl _),
       (h.1 c (1 : Fin 6)).trans ((dats (F := F) m ρ 0 c).arrAt_in (1 : Fin 6) rfl _),
       (h.1 c (2 : Fin 6)).trans ((dats (F := F) m ρ 0 c).arrAt_in (2 : Fin 6) rfl _),
       (h.1 c (3 : Fin 6)).trans ((dats (F := F) m ρ 0 c).arrAt_in (3 : Fin 6) rfl _),
       (h.1 c (4 : Fin 6)).trans ((dats (F := F) m ρ 0 c).arrAt_in (4 : Fin 6) rfl _)⟩, h.2⟩)
    (run_main m ρ)

/-! ## The two programs -/

/-- The kernel as printed and its ideal reading have one body table. -/
theorem defs0_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))

theorem defs_eq : Cert.Kernel.defs (F := F) = Cert.KernelIdeal.defs (F := F) := by
  unfold Cert.Kernel.defs Cert.KernelIdeal.defs
  exact congrArg (Pipeline.defs Cert.KernelIdeal.pcfgs) defs0_eq

/-! ## The reference -/

/-- The reference's run: its result is its operations' composed term, its arguments are as they were, and it has no
    counter to leave above zero. -/
theorem run_reference (m : (ℓ : Loc Cert.ReferenceIdeal.nD Cert.ReferenceIdeal.τ Cert.ReferenceIdeal.sig) → Buf (Elt F) ℓ)
    (g : Dev Cert.ReferenceIdeal.nD → PrngReg) :
    θ_run Cert.ReferenceIdeal.defs (onTc (τ := Cert.ReferenceIdeal.τ) (Cert.ReferenceIdeal.main (F := F))) ⟨m, fun _ => 0, g⟩
      (fun r => (∀ c : Dev Cert.ReferenceIdeal.nD,
        r.2.mem ((c.tc : Thread _ _).loc Cert.ReferenceIdeal.main_v94) = Cert.ReferenceIdeal.Value.res_out0 m c
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)
        ∧ r.2.mem ((c.tc : Thread _ _).loc Cert.ReferenceIdeal.main_arg4) = m ((c.tc : Thread _ _).loc Cert.ReferenceIdeal.main_arg4))
        ∧ r.2.sem = fun _ => 0) :=
  (θ_run Cert.ReferenceIdeal.defs _ _).mono (fun r h => ⟨fun c => h c, sem_eq_zero_of_no_sems (by decide) r.2⟩)
    (Cert.ReferenceIdeal.Value.run m g)

end Cert.Moe

end
-- ==== Proof.Read.lean ====
/-
# The kernel's tables, read at an index

Over the exact values: which tokens want a group, how many of them stand at or before a token, and the table that has a
one where a token takes a place.
-/
module

public import proofs.«01_k».proof.Proof.Frames
public import Idealize.ShloMosaic.Lib.Pointwise

@[expose] public section

noncomputable section

namespace Cert.Moe

open Cert.KernelIdeal Cert.KernelIdeal.Gen

open Idealize.ShloMosaic
open Idealize.SL.Sem

/-! ## Truth values as numbers -/

theorem eq_bit (a b : BitVec 32) : IntOp.cmpi .eq a b = if a = b then 1#1 else 0#1 := by
  unfold IntOp.cmpi
  by_cases h : a = b
  · simp [h]
  · rw [if_neg h, show (a == b) = false from beq_eq_false_iff_ne.2 h]; rfl

/-- An equality, widened and made a number, is one or zero. -/
theorem eq_num (φ : FTy) (a b : BitVec 32) :
    FloatOps.sitofp (F := Ideal) φ (BitVec.setWidth 32 (IntOp.cmpi .eq a b)) = (if a = b then 1 else 0 : EReal) := by
  rw [eq_bit]
  by_cases h : a = b
  · rw [if_pos h, if_pos h]
    show (((BitVec.setWidth 32 1#1).toInt : ℝ) : EReal) = 1
    rw [show (BitVec.setWidth 32 1#1).toInt = 1 by decide]; norm_num
  · rw [if_neg h, if_neg h]
    show (((BitVec.setWidth 32 0#1).toInt : ℝ) : EReal) = 0
    rw [show (BitVec.setWidth 32 0#1).toInt = 0 by decide]; norm_num

theorem toInt_small (a : ℕ) (h : a < 2 ^ 31) : (BitVec.ofNat 32 a).toInt = a := by
  rw [BitVec.toInt_eq_toNat_of_lt] <;> simp <;> omega

theorem ofNat_inj {a b : ℕ} (ha : a < 2 ^ 32) (hb : b < 2 ^ 32) (h : BitVec.ofNat 32 a = BitVec.ofNat 32 b) : a = b := by
  have := congrArg BitVec.toNat h
  simp only [BitVec.toNat_ofNat] at this
  omega

/-- So is an order of two small numbers. -/
theorem ge_num (φ : FTy) (a b : ℕ) (ha : a < 2 ^ 31) (hb : b < 2 ^ 31) :
    FloatOps.sitofp (F := Ideal) φ (BitVec.setWidth 32 (IntOp.cmpi .sge (BitVec.ofNat 32 a) (BitVec.ofNat 32 b)))
      = (if b ≤ a then 1 else 0 : EReal) := by
  have e : IntOp.cmpi .sge (BitVec.ofNat 32 a) (BitVec.ofNat 32 b) = if b ≤ a then 1#1 else 0#1 := by
    unfold IntOp.cmpi
    simp only [BitVec.sle, toInt_small a ha, toInt_small b hb]
    by_cases h : b ≤ a <;> simp [h]
  rw [e]
  by_cases h : b ≤ a
  · rw [if_pos h, if_pos h]
    show (((BitVec.setWidth 32 1#1).toInt : ℝ) : EReal) = 1
    rw [show (BitVec.setWidth 32 1#1).toInt = 1 by decide]; norm_num
  · rw [if_neg h, if_neg h]
    show (((BitVec.setWidth 32 0#1).toInt : ℝ) : EReal) = 0
    rw [show (BitVec.setWidth 32 0#1).toInt = 0 by decide]; norm_num

/-- One less than a small count, made a word. -/
theorem word_pred (n : ℕ) (hn : n ≤ 512) :
    FloatOps.fptosi (F := Ideal) (φ := .f32) 32 (((n : ℝ) : EReal) - 1 : EReal) = BitVec.ofInt 32 ((n : ℤ) - 1) := by
  have e : (((n : ℝ) : EReal) - 1 : EReal) = ((((n : ℤ) - 1 : ℤ) : ℝ) : EReal) := by push_cast; rfl
  rw [e]
  show BitVec.ofInt 32 (max _ (min _ (if (0 : ℝ) ≤ (((n : ℤ) - 1 : ℤ) : ℝ) then ⌊(((n : ℤ) - 1 : ℤ) : ℝ)⌋ else ⌈(((n : ℤ) - 1 : ℤ) : ℝ)⌉))) = _
  rw [Int.floor_intCast, Int.ceil_intCast, ite_self]
  congr 1
  norm_num
  omega

/-! ## The tokens that want a group -/

section Tables
variable (d : Dev nD) (ix : Vec Ideal S512x1 .i32)

/-- Token `t`'s word. -/
abbrev wd (t : Fin 512) : BitVec 32 := ix (ix2 t 0)

/-- Token `t` wants the group that is `k` devices on from `d`. -/
def sel (k : ℕ) (t : Fin 512) : Prop := IntOp.divsi ArithUnit.vector (wd ix t) 2#32 = BitVec.ofNat 32 ((d.val + k) % 4)

instance (k : ℕ) : DecidablePred (sel d ix k) := fun _ => inferInstanceAs (Decidable (_ = _))

/-- How many tokens at or before `t` want that group. -/
def cnt (k : ℕ) (t : Fin 512) : ℕ := (Finset.univ.filter fun u : Fin 512 => u ≤ t ∧ sel d ix k u).card

theorem cnt_le (k : ℕ) (t : Fin 512) : cnt d ix k t ≤ 512 := by
  refine (Finset.card_le_univ _).trans ?_
  simp

theorem cnt_inj {k : ℕ} {t u : Fin 512} (ht : sel d ix k t) (hu : sel d ix k u) (h : cnt d ix k t = cnt d ix k u) : t = u := by
  have key : ∀ {t u : Fin 512}, sel d ix k u → t < u → cnt d ix k t < cnt d ix k u := by
    intro t u hu hlt
    refine Finset.card_lt_card (Finset.ssubset_iff_of_subset ?_ |>.2 ⟨u, ?_, ?_⟩)
    · intro v hv
      simp only [Finset.mem_filter, Finset.mem_univ, true_and] at hv ⊢
      exact ⟨hv.1.trans hlt.le, hv.2⟩
    · simpa using hu
    · simp only [Finset.mem_filter, Finset.mem_univ, true_and, not_and]
      intro h; exact absurd h (not_le.2 hlt)
  rcases lt_trichotomy t u with h' | h' | h'
  · have := key hu h'; omega
  · exact h'
  · have := key ht h'; omega

theorem cnt_pos {k : ℕ} {t : Fin 512} (ht : sel d ix k t) : 0 < cnt d ix k t :=
  Finset.card_pos.2 ⟨t, by simpa using ht⟩

theorem group_word (k : Fin 4) :
    IntOp.remsi ArithUnit.vector (IntOp.addi (Scalar.remsi (Scalar.divsi d.word 1#32) 4#32) (BitVec.ofNat 32 k.val)) 4#32
      = BitVec.ofNat 32 ((d.val + k.val) % 4) := by
  fin_cases d <;> fin_cases k <;> decide +kernel

theorem M_apply (t : Fin 512) (k : Fin 4) :
    k0_pay6 (F := Ideal) (k0_pay4 (F := Ideal) ix) (k0_pay5 d) (ix2 t k) = if sel d ix k.val t then (1 : EReal) else 0 := by
  pointwise [k0_pay6, k0_pay4, k0_pay5, k0_pay2, k0_pay1]
  rw [eq_num, group_word]
  rfl

theorem rank_apply (t : Fin 512) (k : Fin 4) :
    k0_pay7 (F := Ideal) (k0_pay4 (F := Ideal) ix) (k0_pay5 d) (ix2 t k) = (((cnt d ix k.val t : ℕ) : ℝ) : EReal) - 1 := by
  pointwise [k0_pay7]
  have e : ∀ u : Fin 512, FloatOps.sitofp (F := Ideal) .f32 (BitVec.setWidth 32 (IntOp.cmpi .sge (BitVec.ofNat 32 t.val) (BitVec.ofNat 32 u.val)))
      * k0_pay6 (F := Ideal) (k0_pay4 (F := Ideal) ix) (k0_pay5 d) (ix2 u k) = if u ≤ t ∧ sel d ix k.val u then (1 : EReal) else 0 := by
    intro u
    rw [M_apply, ge_num _ _ _ (by omega) (by omega)]
    by_cases h1 : u ≤ t <;> by_cases h2 : sel d ix k.val u <;> simp [h1, h2, ← Fin.le_def]
  have e2 : (∑ u : Fin 512, if u ≤ t ∧ sel d ix k.val u then (1 : EReal) else 0) = (((cnt d ix k.val t : ℕ) : ℝ) : EReal) := by
    rw [Finset.sum_boole]; rfl
  rw [← e2]
  exact congrArg (fun a : EReal => a - 1) (Finset.sum_congr rfl fun u _ => e u)

/-- The place table: token `t` takes place `p`. -/
theorem PT_apply (k : Fin 4) (hk : k ≠ 0) (t : Fin 512) (p : Fin 192) :
    PT (F := Ideal) d ix k.val (ix2 t p) = if sel d ix k.val t ∧ cnt d ix k.val t = p.val + 1 then (1 : EReal) else 0 := by
  have e : (FloatOps.sitofp (F := Ideal) .f32 (BitVec.setWidth 32 (IntOp.cmpi .eq (BitVec.ofNat 32 p.val)
      (FloatOps.fptosi (F := Ideal) (φ := .f32) 32 (k0_pay7 (F := Ideal) (k0_pay4 (F := Ideal) ix) (k0_pay5 d) (ix2 t k)))))
      * k0_pay6 (F := Ideal) (k0_pay4 (F := Ideal) ix) (k0_pay5 d) (ix2 t k) : EReal)
      = if sel d ix k.val t ∧ cnt d ix k.val t = p.val + 1 then (1 : EReal) else 0 := by
    rw [rank_apply, word_pred _ (cnt_le d ix k.val t), eq_num, M_apply]
    by_cases h2 : sel d ix k.val t
    · have hp := cnt_pos d ix h2
      have hle := cnt_le d ix k.val t
      have e3 : BitVec.ofInt 32 ((cnt d ix k.val t : ℤ) - 1) = BitVec.ofNat 32 (cnt d ix k.val t - 1) := by
        rw [← BitVec.ofInt_natCast]; congr 1; omega
      have e4 : (BitVec.ofNat 32 p.val = BitVec.ofInt 32 ((cnt d ix k.val t : ℤ) - 1)) ↔ cnt d ix k.val t = p.val + 1 := by
        rw [e3]
        constructor
        · intro h
          have := ofNat_inj (by omega) (by omega) h
          omega
        · intro h; rw [h]; rfl
      simp only [e4, h2, true_and, if_true, mul_one]
    · simp [h2]
  rw [← e]
  fin_cases k
  · exact absurd rfl hk
  · show k0_pay9 (F := Ideal) _ _ _ = _
    pointwise [k0_pay9]
  · show k0_pay15 (F := Ideal) _ _ _ _ = _
    pointwise [k0_pay15, colI]
  · show k0_pay21 (F := Ideal) _ _ _ _ = _
    pointwise [k0_pay21, colI]

end Tables

end Cert.Moe

end
-- ==== Proof.Slots.lean ====
/-
# What the slots carry, read at an index

A slot's row holds the token that takes its place, the row of bits that token's bit, and a device's products of a slot
are the products of those tokens with the expert the bit chooses. Summed against the place table, a slot gives back
each token's product, or nothing.
-/
module

public import proofs.«01_k».proof.Proof.Read

@[expose] public section

noncomputable section

namespace Cert.Moe

open Cert.KernelIdeal Cert.KernelIdeal.Gen

open Idealize.ShloMosaic
open Idealize.SL.Sem

/-- Which of its group's two experts a word names, as a number. -/
def bitOf (w : BitVec 32) : EReal :=
  FloatOps.sitofp (F := Ideal) .bf16 (IntOp.subi w (IntOp.muli (IntOp.divsi ArithUnit.vector w 2#32) 2#32))

/-- A token's product with the one of two experts its word names. -/
def ey (e : Vec Ideal S2x256x512 .bf16) (x : Vec Ideal S512x256 .bf16) (w : BitVec 32) (t h : Fin 512) : EReal :=
  if Ideal.ofBits .f32 1056964608#32 < bitOf w then ∑ l, x (ix2 t l) * e (ix3 1 l h) else ∑ l, x (ix2 t l) * e (ix3 0 l h)

section Slots
variable (d : Dev nD) (x : Vec Ideal S512x256 .bf16) (ix : Vec Ideal S512x1 .i32)

theorem pay3_apply (t : Fin 512) : k0_pay3 (F := Ideal) ix (ix2 t 0) = bitOf (wd ix t) := by
  pointwise [k0_pay3, k0_pay2, k0_pay1]
  rfl

theorem brow_apply (k : Fin 4) (hk : k ≠ 0) (p : Fin 192) :
    brow (F := Ideal) d ix k.val (ix2 0 p) = ∑ t, bitOf (wd ix t) * PT (F := Ideal) d ix k.val (ix2 t p) := by
  simp only [← pay3_apply]
  fin_cases k
  · exact absurd rfl hk
  · show k0_pay10 (F := Ideal) _ _ _ _ = _
    pointwise [k0_pay10]
    rfl
  · show k0_pay16 (F := Ideal) _ _ _ _ _ = _
    pointwise [k0_pay16]
    rfl
  · show k0_pay22 (F := Ideal) _ _ _ _ _ = _
    pointwise [k0_pay22]
    rfl

/-- Row `q` of a slot's half of the places. -/
def place (i : ℕ) (q : Fin 96) : Fin 192 := ⟨96 * (i % 2) + q.val, by omega⟩

theorem XB_apply (i : ℕ) (q : Fin 96) (l : Fin 256) :
    XB (F := Ideal) d x ix i (ix3 0 q l) = ∑ t, PT (F := Ideal) d ix (kk i) (ix2 t (place i q)) * x (ix2 t l) := by
  unfold XB
  by_cases h : i % 2 = 0
  · rw [if_pos h, show place i q = (⟨q.val, by omega⟩ : Fin 192) from Fin.ext (by simp [place, h])]
    pointwise [halfX0, k0_pay8]
  · rw [if_neg h, show place i q = (⟨96 + q.val, by omega⟩ : Fin 192) from
      Fin.ext (by show 96 * (i % 2) + q.val = 96 + q.val; rw [show i % 2 = 1 by omega])]
    pointwise [k0_pay13, k0_pay8]

theorem BB_apply (i : ℕ) (hi : i < 6) (q : Fin 96) :
    BB (F := Ideal) d ix i (ix3 0 0 q) = ∑ t, bitOf (wd ix t) * PT (F := Ideal) d ix (kk i) (ix2 t (place i q)) := by
  have hk : kk i < 4 := by unfold kk; omega
  have hk0 : (⟨kk i, hk⟩ : Fin 4) ≠ 0 := by
    intro h; have := congrArg Fin.val h; simp [kk] at this
  rw [← brow_apply d ix ⟨kk i, hk⟩ hk0]
  unfold BB
  rw [row_bits]
  by_cases h : i % 2 = 0
  · rw [if_pos h, show place i q = (⟨q.val, by omega⟩ : Fin 192) from Fin.ext (by simp [place, h])]
    refine congrArg (brow (F := Ideal) d ix (kk i)) (funext fun a => Fin.ext ?_)
    fin_cases a
    · rfl
    · show 0 + q.val = q.val
      omega
  · rw [if_neg h, show place i q = (⟨96 + q.val, by omega⟩ : Fin 192) from
      Fin.ext (by show 96 * (i % 2) + q.val = 96 + q.val; rw [show i % 2 = 1 by omega])]
    refine congrArg (brow (F := Ideal) d ix (kk i)) (funext fun a => Fin.ext ?_)
    fin_cases a
    · rfl
    · rfl

/-- Only one token takes a place, so a sum over the tokens against a place's column is that token's term. -/
theorem column_sum (k : Fin 4) (hk : k ≠ 0) {t : Fin 512} {p : Fin 192} (ht : sel d ix k.val t) (hc : cnt d ix k.val t = p.val + 1)
    (u : Fin 512) : PT (F := Ideal) d ix k.val (ix2 u p) = if u = t then (1 : EReal) else 0 := by
  rw [PT_apply d ix k hk]
  by_cases h : u = t
  · subst h; rw [if_pos ⟨ht, hc⟩, if_pos rfl]
  · rw [if_neg h, if_neg]
    rintro ⟨hs, hn⟩
    exact h (cnt_inj d ix hs ht (hn.trans hc.symm))

theorem yOf_apply (e : Vec Ideal S2x256x512 .bf16) (xb : Vec Ideal S1x96x256 .bf16) (bb : Vec Ideal S1x1x96 .bf16) (q : Fin 96) (h : Fin 512) :
    yOf (F := Ideal) e xb bb (ix3 0 q h) = if Ideal.ofBits .f32 1056964608#32 < bb (ix3 0 0 q)
      then ∑ l, xb (ix3 0 q l) * e (ix3 1 l h) else ∑ l, xb (ix3 0 q l) * e (ix3 0 l h) := by
  pointwise [yOf, k0_pay31, k0_pay28, k0_pay30]
  have e : (∑ y : Fin 96, FloatOps.sitofp (F := Ideal) .bf16 (BitVec.setWidth 32 (IntOp.cmpi .eq (BitVec.ofNat 32 q.val) (BitVec.ofNat 32 y.val)))
      * bb (ix3 0 0 y) : EReal) = bb (ix3 0 0 q) := by
    rw [Finset.sum_eq_single q]
    · rw [eq_num, if_pos rfl, one_mul]
    · intro y _ hy
      rw [eq_num, if_neg, zero_mul]
      intro h
      exact hy (Fin.ext (ofNat_inj (by omega) (by omega) h).symm)
    · intro h; exact absurd (Finset.mem_univ _) h
  rw [← e]
  rfl

/-- The row of the token that takes the place. -/
theorem row_token (e : Vec Ideal S2x256x512 .bf16) (i : ℕ) (hi : i < 6) (q : Fin 96) (h t : Fin 512)
    (ht : sel d ix (kk i) t) (hc : cnt d ix (kk i) t = (place i q).val + 1) :
    yOf (F := Ideal) e (XB (F := Ideal) d x ix i) (BB (F := Ideal) d ix i) (ix3 0 q h) = ey e x (wd ix t) t h := by
  have hk : kk i < 4 := by unfold kk; omega
  have hk0 : (⟨kk i, hk⟩ : Fin 4) ≠ 0 := by
    intro h; have := congrArg Fin.val h; simp [kk] at this
  have hx : ∀ l, XB (F := Ideal) d x ix i (ix3 0 q l) = x (ix2 t l) := fun l => by
    rw [XB_apply, Finset.sum_congr rfl fun u _ => by rw [column_sum d ix ⟨kk i, hk⟩ hk0 ht hc u, ite_mul, one_mul, zero_mul],
      Finset.sum_ite_eq' Finset.univ t, if_pos (Finset.mem_univ t)]
  have hb : BB (F := Ideal) d ix i (ix3 0 0 q) = bitOf (wd ix t) := by
    rw [BB_apply d ix i hi, Finset.sum_congr rfl fun u _ => by rw [column_sum d ix ⟨kk i, hk⟩ hk0 ht hc u, mul_ite, mul_one, mul_zero],
      Finset.sum_ite_eq' Finset.univ t, if_pos (Finset.mem_univ t)]
  rw [yOf_apply, hb]
  simp only [hx]
  rfl

/-- A slot summed against the place table: a token's product where it takes one of the slot's places, else nothing. -/
theorem slot_apply (e : Vec Ideal S2x256x512 .bf16) (i : ℕ) (hi : i < 6) (h t : Fin 512) :
    (∑ q : Fin 96, PT (F := Ideal) d ix (kk i) (ix2 t (place i q))
        * yOf (F := Ideal) e (XB (F := Ideal) d x ix i) (BB (F := Ideal) d ix i) (ix3 0 q h) : EReal)
      = if sel d ix (kk i) t ∧ 96 * (i % 2) < cnt d ix (kk i) t ∧ cnt d ix (kk i) t ≤ 96 * (i % 2) + 96
        then ey e x (wd ix t) t h else 0 := by
  have hk : kk i < 4 := by unfold kk; omega
  have hk0 : (⟨kk i, hk⟩ : Fin 4) ≠ 0 := by
    intro h; have := congrArg Fin.val h; simp [kk] at this
  have hP := fun q => PT_apply d ix ⟨kk i, hk⟩ hk0 t (place i q)
  by_cases hs : sel d ix (kk i) t ∧ 96 * (i % 2) < cnt d ix (kk i) t ∧ cnt d ix (kk i) t ≤ 96 * (i % 2) + 96
  · rw [if_pos hs]
    have hq : cnt d ix (kk i) t - 1 - 96 * (i % 2) < 96 := by omega
    have hc : cnt d ix (kk i) t = (place i ⟨_, hq⟩).val + 1 := by
      show _ = 96 * (i % 2) + (cnt d ix (kk i) t - 1 - 96 * (i % 2)) + 1
      omega
    rw [Finset.sum_eq_single (⟨_, hq⟩ : Fin 96), hP, if_pos ⟨hs.1, hc⟩, one_mul, row_token d x ix e i hi _ h t hs.1 hc]
    · intro y _ hy
      rw [hP, if_neg, zero_mul]
      rintro ⟨_, hn⟩
      refine hy (Fin.ext ?_)
      have : cnt d ix (kk i) t = 96 * (i % 2) + y.val + 1 := hn
      show y.val = cnt d ix (kk i) t - 1 - 96 * (i % 2)
      omega
    · intro h; exact absurd (Finset.mem_univ _) h
  · rw [if_neg hs]
    refine Finset.sum_eq_zero fun y _ => ?_
    rw [hP, if_neg, zero_mul]
    rintro ⟨h1, hn⟩
    have : cnt d ix (kk i) t = 96 * (i % 2) + y.val + 1 := hn
    exact hs ⟨h1, by omega, by omega⟩

end Slots

end Cert.Moe

end
-- ==== Proof.Value.lean ====
/-
# What a device adds up, token by token

Over the exact values, where no group is wanted by more tokens of a device than there are places: each token's row of the
result is its row of the shared product, and on top of it its product with the expert its word names, weighed by the
softmax of its scores there.
-/
module

public import proofs.«01_k».proof.Proof.Slots

@[expose] public section

noncomputable section

namespace Cert.Moe

open Cert.KernelIdeal Cert.KernelIdeal.Gen

open Idealize.ShloMosaic
open Idealize.SL.Sem

/-! ## The weights -/

/-- A row's score for an expert. -/
def score (xr : Fin 256 → EReal) (r : Vec Ideal S256x8 .bf16) (e : Fin 8) : EReal := ∑ l, xr l * r (ix2 l e)

/-- The largest of a row's scores. -/
def top (xr : Fin 256 → EReal) (r : Vec Ideal S256x8 .bf16) : EReal :=
  Finset.fold max (Ideal.ofBits .f32 4286578688#32) (fun e => score xr r e) Finset.univ

/-- The softmax of a row's scores at an expert. -/
def prob (xr : Fin 256 → EReal) (r : Vec Ideal S256x8 .bf16) (e : Fin 8) : EReal :=
  Ideal.div (Ideal.exp (score xr r e - top xr r)) (∑ f, Ideal.exp (score xr r f - top xr r))

/-- The weight of the expert a word names, nothing where it names none. -/
def gate (xr : Fin 256 → EReal) (r : Vec Ideal S256x8 .bf16) (w : BitVec 32) : EReal :=
  ∑ e : Fin 8, if BitVec.ofNat 32 e.val = w then prob xr r e else 0

theorem select_eq {α : Type} (a b : BitVec 32) (x y : α) : Scalar.select (IntOp.cmpi .eq a b) x y = if a = b then x else y := by
  rw [eq_bit]
  by_cases h : a = b <;> simp [Scalar.select, h]

theorem gate_in (xr : Fin 256 → EReal) (r : Vec Ideal S256x8 .bf16) (e : Fin 8) : gate xr r (BitVec.ofNat 32 e.val) = prob xr r e := by
  unfold gate
  rw [Finset.sum_eq_single e]
  · rw [if_pos rfl]
  · intro f _ hf
    rw [if_neg]
    intro h
    exact hf (Fin.ext (ofNat_inj (by omega) (by omega) h))
  · intro h; exact absurd (Finset.mem_univ _) h

theorem gate_out (xr : Fin 256 → EReal) (r : Vec Ideal S256x8 .bf16) (w : BitVec 32) (hw : ∀ e : Fin 8, w ≠ BitVec.ofNat 32 e.val) :
    gate xr r w = 0 :=
  Finset.sum_eq_zero fun e _ => if_neg fun h => hw e h.symm

theorem pay27_apply (ix : Vec Ideal S512x1 .i32) (x : Vec Ideal S512x256 .bf16) (r : Vec Ideal S256x8 .bf16) (t : Fin 512) :
    k0_pay27 (F := Ideal) (k0_pay1 ix) (k0_pay8 x) r (ix2 t 0) = gate (fun l => x (ix2 t l)) r (wd ix t) := by
  pointwise [k0_pay27, k0_pay1, k0_pay8]
  exact Finset.sum_congr rfl fun e _ => select_eq _ _ _ _

/-! ## The two halves of a word -/

theorem group_of (e : Fin 8) : IntOp.divsi ArithUnit.vector (BitVec.ofNat 32 e.val) 2#32 = BitVec.ofNat 32 (e.val / 2) := by
  fin_cases e <;> decide +kernel

theorem half_eq : Ideal.ofBits .f32 1056964608#32 = (((1 : ℝ) / 2 : ℝ) : EReal) := by
  simp [Ideal.ofBits, Ideal.ieee, -EReal.coe_mul]; norm_num

theorem bit_of (e : Fin 8) : Ideal.ofBits .f32 1056964608#32 < bitOf (BitVec.ofNat 32 e.val) ↔ e.val % 2 = 1 := by
  have h : (IntOp.subi (BitVec.ofNat 32 e.val) (IntOp.muli (IntOp.divsi ArithUnit.vector (BitVec.ofNat 32 e.val) 2#32) 2#32)).toInt
      = ((e.val % 2 : ℕ) : ℤ) := by
    fin_cases e <;> decide +kernel
  have h2 : bitOf (BitVec.ofNat 32 e.val) = (((e.val % 2 : ℕ) : ℝ) : EReal) := by
    show (((IntOp.subi (BitVec.ofNat 32 e.val) (IntOp.muli (IntOp.divsi ArithUnit.vector (BitVec.ofNat 32 e.val) 2#32) 2#32)).toInt : ℝ) : EReal) = _
    rw [h]; push_cast; rfl
  rw [half_eq, h2, EReal.coe_lt_coe_iff]
  rcases Nat.mod_two_eq_zero_or_one e.val with h3 | h3 <;> rw [h3] <;> norm_num

/-! ## The sum -/

section Sum
variable (c : Dev nD) (x : Vec Ideal S512x256 .bf16) (r : Vec Ideal S256x8 .bf16) (ix : Vec Ideal S512x1 .i32)
variable (s : Vec Ideal S256x512 .bf16) (E : ℕ → Vec Ideal S2x256x512 .bf16)

/-- A token's product with the shared weights. -/
def shared (t h : Fin 512) : EReal := ∑ l, x (ix2 t l) * s (ix2 l h)

/-- What the device of group `k` gives back through slot `i`. -/
def Ye (i : ℕ) : Vec Ideal S1x96x512 .bf16 := yOf (F := Ideal) (E (kk i)) (XB (F := Ideal) c x ix i) (BB (F := Ideal) c ix i)

theorem out_apply (t h : Fin 512) :
    outOf (F := Ideal) c x r ix (E 0) s (Ye c x ix E) (ix2 t h)
      = shared x s t h + gate (fun l => x (ix2 t l)) r (wd ix t) * (if sel c ix 0 t then (1 : EReal) else 0) * ey (E 0) x (wd ix t) t h
        + gate (fun l => x (ix2 t l)) r (wd ix t) * (if sel c ix 1 t ∧ 0 < cnt c ix 1 t ∧ cnt c ix 1 t ≤ 96 then ey (E 1) x (wd ix t) t h else 0)
        + gate (fun l => x (ix2 t l)) r (wd ix t) * (if sel c ix 3 t ∧ 0 < cnt c ix 3 t ∧ cnt c ix 3 t ≤ 96 then ey (E 3) x (wd ix t) t h else 0)
        + gate (fun l => x (ix2 t l)) r (wd ix t) * (if sel c ix 2 t ∧ 0 < cnt c ix 2 t ∧ cnt c ix 2 t ≤ 96 then ey (E 2) x (wd ix t) t h else 0)
        + gate (fun l => x (ix2 t l)) r (wd ix t) * (if sel c ix 1 t ∧ 96 < cnt c ix 1 t ∧ cnt c ix 1 t ≤ 192 then ey (E 1) x (wd ix t) t h else 0)
        + gate (fun l => x (ix2 t l)) r (wd ix t) * (if sel c ix 3 t ∧ 96 < cnt c ix 3 t ∧ cnt c ix 3 t ≤ 192 then ey (E 3) x (wd ix t) t h else 0)
        + gate (fun l => x (ix2 t l)) r (wd ix t) * (if sel c ix 2 t ∧ 96 < cnt c ix 2 t ∧ cnt c ix 2 t ≤ 192 then ey (E 2) x (wd ix t) t h else 0) := by
  have hs : ∀ i : ℕ, i < 6 → ∀ f : Fin 96 → Fin 192, (∀ q, f q = place i q) →
      (∑ q : Fin 96, PT (F := Ideal) c ix (kk i) (ix2 t (f q)) * Ye c x ix E i (ix3 0 q h) : EReal)
        = if sel c ix (kk i) t ∧ 96 * (i % 2) < cnt c ix (kk i) t ∧ cnt c ix (kk i) t ≤ 96 * (i % 2) + 96
          then ey (E (kk i)) x (wd ix t) t h else 0 := by
    intro i hi f hf
    rw [← slot_apply c x ix (E (kk i)) i hi h t]
    refine Finset.sum_congr rfl fun q _ => ?_
    rw [hf q]
    rfl
  have pe : ∀ i, i % 2 = 0 → ∀ q : Fin 96, (⟨q.val, by omega⟩ : Fin 192) = place i q := fun i hi q => Fin.ext (by simp [place, hi])
  have po : ∀ i, i % 2 = 1 → ∀ q : Fin 96, (⟨96 + q.val, by omega⟩ : Fin 192) = place i q := fun i hi q => Fin.ext (by simp [place, hi])
  have h0 := hs 0 (by decide) _ (pe 0 rfl)
  have h1 := hs 1 (by decide) _ (po 1 rfl)
  have h2 := hs 2 (by decide) _ (pe 2 rfl)
  have h3 := hs 3 (by decide) _ (po 3 rfl)
  have h4 := hs 4 (by decide) _ (pe 4 rfl)
  have h5 := hs 5 (by decide) _ (po 5 rfl)
  have hown : k0_pay29 (F := Ideal) (k0_pay1 ix) (k0_pay3 ix) (k0_pay6 (k0_pay4 (F := Ideal) ix) (k0_pay5 c)) (k0_pay8 x) r (E 0) s (ix2 t h)
      = shared x s t h + gate (fun l => x (ix2 t l)) r (wd ix t) * (if sel c ix 0 t then (1 : EReal) else 0) * ey (E 0) x (wd ix t) t h := by
    have hM := M_apply c ix t 0
    pointwise [k0_pay29, k0_pay28]
    rw [pay27_apply, pay3_apply]
    pointwise [k0_pay8]
    rw [show k0_pay6 (F := Ideal) (k0_pay4 (F := Ideal) ix) (k0_pay5 c) (ix2 t 0) = _ from hM]
    rfl
  rw [← hown]
  rw [← pay27_apply]
  pointwise [outOf, k0_pay45, k0_pay48, k0_pay51, k0_pay54, k0_pay46, k0_pay47, k0_pay49, k0_pay50, k0_pay52, k0_pay53]
  exact congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) rfl
      (congrArg _ h0)) (congrArg _ h4)) (congrArg _ h2)) (congrArg _ h1)) (congrArg _ h5)) (congrArg _ h3)

theorem sel_of (e : Fin 8) (t : Fin 512) (hw : wd ix t = BitVec.ofNat 32 e.val) (k : ℕ) : sel c ix k t ↔ (c.val + k) % 4 = e.val / 2 := by
  unfold sel
  rw [hw, group_of]
  constructor
  · intro h; exact (ofNat_inj (by omega) (by omega) h).symm
  · intro h; rw [h]

/-- A token whose word names an expert: that expert's product, weighed, over the shared one. -/
theorem out_in (hcap : ∀ k : ℕ, k < 4 → ∀ t, sel c ix k t → cnt c ix k t ≤ 192) (e : Fin 8) (t h : Fin 512) (hw : wd ix t = BitVec.ofNat 32 e.val)
    (k : ℕ) (hk : k < 4) (hke : (c.val + k) % 4 = e.val / 2) :
    outOf (F := Ideal) c x r ix (E 0) s (Ye c x ix E) (ix2 t h)
      = shared x s t h + prob (fun l => x (ix2 t l)) r e * ey (E k) x (wd ix t) t h := by
  have hg : gate (fun l => x (ix2 t l)) r (wd ix t) = prob (fun l => x (ix2 t l)) r e := by rw [hw, gate_in]
  have hs : ∀ j, j < 4 → (sel c ix j t ↔ j = k) := fun j hj => by
    rw [sel_of c ix e t hw]
    constructor
    · intro h; omega
    · intro h; rw [h]; exact hke
  have hc : cnt c ix k t ≤ 192 := hcap k hk t ((hs k hk).2 rfl)
  have hp : 0 < cnt c ix k t := cnt_pos c ix ((hs k hk).2 rfl)
  rw [out_apply, hg]
  simp only [hs 0 (by decide), hs 1 (by decide), hs 2 (by decide), hs 3 (by decide)]
  have hk' : k = 0 ∨ k = 1 ∨ k = 2 ∨ k = 3 := by omega
  rcases Nat.lt_or_ge 96 (cnt c ix k t) with h96 | h96
  · have h96' : ¬ cnt c ix k t ≤ 96 := by omega
    rcases hk' with rfl | rfl | rfl | rfl <;> simp [h96, h96', hc]
  · have h96' : ¬ 96 < cnt c ix k t := by omega
    rcases hk' with rfl | rfl | rfl | rfl <;> simp [h96, h96', hp]

/-- A token whose word names none: the shared product. -/
theorem out_out (t h : Fin 512) (hw : ∀ e : Fin 8, wd ix t ≠ BitVec.ofNat 32 e.val) :
    outOf (F := Ideal) c x r ix (E 0) s (Ye c x ix E) (ix2 t h) = shared x s t h := by
  rw [out_apply, gate_out _ _ _ hw]
  simp

end Sum

end Cert.Moe

end
-- ==== Proof.Capacity.lean ====
/-
# The precondition, counted

Where the precondition holds of a device's words, no group is wanted by more than 192 of its tokens.
-/
module

public import proofs.«01_k».proof.Proof.Read
public import proofs.«01_k».proof.Pre_within_capacity_KernelIdeal
public import proofs.«01_k».proof.Pre_within_capacity_ReferenceIdeal
public import Idealize.ShloMosaic.Lib.IndicatorCount

@[expose] public section

noncomputable section

namespace Cert.Moe

open Idealize.ShloMosaic
open Idealize.SL.Sem

theorem preFacts : Cert.Pre_within_capacity_KernelIdeal.Facts where
  bcast_S_S512x1 := by decide
  natLt_1_32 := by decide
  reducesTo_S512x1_S_d0_1 := by decide
  h_S_ := by decide

theorem preFactsReference : Cert.Pre_within_capacity_ReferenceIdeal.Facts where
  bcast_S_S2048x1 := by decide
  natLt_1_32 := by decide
  reducesTo_S2048x1_S_d0_1 := by decide
  h_S_ := by decide

theorem and_one {a b : BitVec 1} (h : IntOp.andi a b = 1#1) : a = 1#1 ∧ b = 1#1 := by
  revert a b; decide

theorem divsi_any (w : BitVec 32) : IntOp.divsi ArithUnit.host w 2#32 = IntOp.divsi ArithUnit.vector w 2#32 := by
  have h : ¬ IntOp.SDivCorner w 2#32 := by
    rintro (h | ⟨_, h⟩) <;> exact absurd h (by decide)
  unfold IntOp.divsi
  rw [if_neg h, if_neg h]

section Count
open Cert.Pre_within_capacity_KernelIdeal
variable (ix : IVec S512x1 32)

/-- The number of a device's tokens that want group `g`. -/
def wants (g : ℕ) : ℕ := (Finset.univ.filter fun u : Fin 512 => IntOp.divsi ArithUnit.vector (ix (ix2 u 0)) 2#32 = BitVec.ofNat 32 g).card

/-- A count that the precondition bounds. -/
theorem wants_le (g : ℕ) (p : S512x1.Idx → BitVec 1) (hp : ∀ i, p i = IntOp.cmpi .eq (IntOp.divsi ArithUnit.host (ix i) 2#32) (BitVec.ofNat 32 g))
    (h : S512x1.ReducesTo [0, 1] S_) (hu : 0 < S_.numel) (j : S_.Idx)
    (hle : IntOp.cmpi .sle (Host.reduce IntOp.addi (fun i => (p i).setWidth 32) (constantI S_ 32 0#32) h hu j) 192#32 = 1#1) :
    wants ix g ≤ 192 := by
  rw [Host.reduce_eq_fold] at hle
  have hf : (Finset.univ.filter fun i : S512x1.Idx => h.drop i = j) = Finset.univ :=
    Finset.filter_true_of_mem fun i _ => funext fun a => a.elim0
  rw [hf, show constantI S_ 32 0#32 (Shape.Idx.first hu) = 0#32 from rfl, IndicatorCount.fold_addi_setWidth_eq_card] at hle
  have hcard : wants ix g ≤ (Finset.univ.filter fun i : S512x1.Idx => p i = 1#1).card := by
    refine Finset.card_le_card_of_injOn (fun u : Fin 512 => (ix2 u 0 : S512x1.Idx)) ?_ ?_
    · intro u hu'
      have hu2 : IntOp.divsi ArithUnit.vector (ix (ix2 u 0)) 2#32 = BitVec.ofNat 32 g := by simpa using hu'
      have : p (ix2 u 0) = 1#1 := by rw [hp, eq_bit, divsi_any, if_pos hu2]
      simpa using this
    · intro u _ v _ huv
      exact congrFun huv 0
  have hall : (Finset.univ.filter fun i : S512x1.Idx => p i = 1#1).card ≤ 512 := by
    refine (Finset.card_le_univ _).trans (le_of_eq ?_)
    rw [Shape.card_idx]
    decide
  have hsle : (BitVec.ofNat 32 (Finset.univ.filter fun i : S512x1.Idx => p i = 1#1).card).sle 192#32 = true := by
    unfold IntOp.cmpi at hle
    by_contra hn
    rw [Bool.not_eq_true] at hn
    simp only [hn] at hle
    exact absurd hle (by decide)
  have := BitVec.sle_iff_toInt_le.1 hsle
  rw [toInt_small _ (by omega), show (192#32 : BitVec 32).toInt = 192 by decide] at this
  omega

/-- Every group's count is within the places. -/
theorem pre_wants (a0 : FVec Ideal S512x256 .bf16) (a1 : FVec Ideal S256x8 .bf16) (a3 : FVec Ideal S2x256x512 .bf16) (a4 : FVec Ideal S256x512 .bf16)
    (hpre : (letI := preFacts; fn (F := Ideal) a0 a1 ix a3 a4) = fun _ => 1#1) (g : ℕ) (hg : g < 4) : wants ix g ≤ 192 := by
  have h := congrFun hpre ix0
  obtain ⟨h, h3⟩ := and_one h
  obtain ⟨h, h2⟩ := and_one h
  obtain ⟨h0, h1⟩ := and_one h
  have hg' : g = 0 ∨ g = 1 ∨ g = 2 ∨ g = 3 := by omega
  rcases hg' with rfl | rfl | rfl | rfl
  · exact wants_le ix 0 _ (fun _ => rfl) _ _ _ h0
  · exact wants_le ix 1 _ (fun _ => rfl) _ _ _ h1
  · exact wants_le ix 2 _ (fun _ => rfl) _ _ _ h2
  · exact wants_le ix 3 _ (fun _ => rfl) _ _ _ h3

/-- So each token that wants a group stands within the places. -/
theorem cnt_within (d : Dev Cert.KernelIdeal.nD) (hw : ∀ g, g < 4 → wants ix g ≤ 192) (k : ℕ) (t : Fin 512) : cnt d ix k t ≤ 192 := by
  refine le_trans ?_ (hw ((d.val + k) % 4) (by omega))
  refine Finset.card_le_card fun u hu => ?_
  simp only [Finset.mem_filter, Finset.mem_univ, true_and] at hu ⊢
  exact hu.2

end Count

end Cert.Moe

end
-- ==== Proof.Reference.lean ====
/-
# The reference, token by token

The reference's result at a token and a column: the shared product, and on top of it the product with the expert the
token's word names, weighed.
-/
module

public import proofs.«01_k».proof.Proof.Value

@[expose] public section

noncomputable section

namespace Cert.Moe

open Cert.ReferenceIdeal

open Idealize.ShloMosaic
open Idealize.SL.Sem

section Reference
variable (m : (ℓ : Loc nD τ sig) → Buf (Elt Ideal) ℓ)

/-- The whole arrays. -/
abbrev xR : Vec Ideal S2048x256 .bf16 := m (((0 : Dev nD).tc : Thread nD τ).loc main_arg0)
abbrev rR : Vec Ideal S256x8 .bf16 := m (((0 : Dev nD).tc : Thread nD τ).loc main_arg1)
abbrev iR : Vec Ideal S2048x1 .i32 := m (((0 : Dev nD).tc : Thread nD τ).loc main_arg2)
abbrev eR : Vec Ideal S8x256x512 .bf16 := m (((0 : Dev nD).tc : Thread nD τ).loc main_arg3)
abbrev sR : Vec Ideal S256x512 .bf16 := m (((0 : Dev nD).tc : Thread nD τ).loc main_arg4)

/-- Token `t`'s weighed product with expert `e`, where its word names that expert. -/
def term (t : Fin 2048) (h : Fin 512) (e : Fin 8) : EReal :=
  if iR m (ix2 t 0) = BitVec.ofNat 32 e.val
    then prob (fun l => xR m (ix2 t l)) (rR m) e * ∑ l, xR m (ix2 t l) * eR m (ix3 e l h) else 0

theorem ref_apply (t : Fin 2048) (h : Fin 512) :
    Value.res_out0 m 0 (ix2 t h)
      = (∑ l, xR m (ix2 t l) * sR m (ix2 l h) : EReal) + term m t h 0 + term m t h 1 + term m t h 2 + term m t h 3
        + term m t h 4 + term m t h 5 + term m t h 6 + term m t h 7 := by
  have hz : (id (constant (F := Ideal) S_ .f32 0#32) : FVec Ideal S_ .f32) ix0 = (0 : EReal) := by
    show Ideal.ofBits .f32 0x00000000#32 = 0
    simp [Ideal.ofBits, Ideal.ieee]
  pointwise [Value.res_out0, Value.res_main_v94]
  simp only [select_eq, hz]
  rfl

theorem ref_in (t : Fin 2048) (h : Fin 512) (e : Fin 8) (hw : iR m (ix2 t 0) = BitVec.ofNat 32 e.val) :
    Value.res_out0 m 0 (ix2 t h)
      = (∑ l, xR m (ix2 t l) * sR m (ix2 l h) : EReal)
        + prob (fun l => xR m (ix2 t l)) (rR m) e * ∑ l, xR m (ix2 t l) * eR m (ix3 e l h) := by
  have ht : ∀ f : Fin 8, term m t h f
      = if f = e then prob (fun l => xR m (ix2 t l)) (rR m) e * ∑ l, xR m (ix2 t l) * eR m (ix3 e l h) else 0 := by
    intro f
    unfold term
    by_cases hf : f = e
    · subst hf; rw [if_pos hw, if_pos rfl]
    · rw [if_neg hf, if_neg]
      intro h'
      exact hf (Fin.ext (ofNat_inj (by omega) (by omega) (hw.symm.trans h')).symm)
  rw [ref_apply]
  simp only [ht]
  generalize prob (fun l => xR m (ix2 t l)) (rR m) e * ∑ l, xR m (ix2 t l) * eR m (ix3 e l h) = v
  fin_cases e <;> simp

theorem ref_out (t : Fin 2048) (h : Fin 512) (hw : ∀ e : Fin 8, iR m (ix2 t 0) ≠ BitVec.ofNat 32 e.val) :
    Value.res_out0 m 0 (ix2 t h) = (∑ l, xR m (ix2 t l) * sR m (ix2 l h) : EReal) := by
  rw [ref_apply]
  simp only [term, if_neg (hw _), add_zero]

end Reference

end Cert.Moe

end
-- ==== Proof.Agree.lean ====
/-
# The kernel's result is the reference's

Each device's block of the kernel's result, over the exact values, is its block of the reference's: at every token of the
block, whether its word names an expert or none.
-/
module

public import proofs.«01_k».proof.Proof.Value
public import proofs.«01_k».proof.Proof.Capacity
public import proofs.«01_k».proof.Proof.Reference

@[expose] public section

noncomputable section

namespace Cert.Moe

open Cert.KernelIdeal Cert.KernelIdeal.Gen

open Idealize.ShloMosaic
open Idealize.ShloMosaic.TcCoe
open Idealize.SL.Sem

theorem rot_back (k : ℕ) (hk : k < 4) (c : Dev nD) : rot (4 - k) (rot k c) = c := by
  refine Fin.ext ?_
  show ((c.val + k) % 4 + (4 - k)) % 4 = c.val
  have : c.val < 4 := c.isLt
  omega

theorem outAt_eq (m : (ℓ : Loc nD τ sig) → Buf (Elt Ideal) ℓ) (ρ : Dev nD → PrngReg) (c : Dev nD) :
    outAt m ρ c = outOf (F := Ideal) c (xI m ρ c) (rI m ρ c) (iI m ρ c) (eI m ρ (rot 0 c)) (sI m ρ c)
      (Ye c (xI m ρ c) (iI m ρ c) fun k => eI m ρ (rot k c)) := by
  have h0 : rot 0 c = c := Fin.ext (Nat.mod_eq_of_lt c.isLt)
  rw [h0]
  unfold outAt outOf
  have hY : ∀ i, i < 6 → YS m ρ (rot (kk i) c) i = Ye c (xI m ρ c) (iI m ρ c) (fun k => eI m ρ (rot k c)) i := by
    intro i hi
    unfold YS Ye XS BR
    rw [rot_back (kk i) (by unfold kk; omega) c]
  simp only [hY 0 (by decide), hY 1 (by decide), hY 2 (by decide), hY 3 (by decide), hY 4 (by decide), hY 5 (by decide)]

section Agree
variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- Where device `c`'s token `t` stands in the whole array. -/
def whole (c : Dev nD) (t : Fin 512) : Fin 2048 := ⟨c.val * 512 + t.val, by have : c.val < 4 := c.isLt; omega⟩

/-- Where device `c`'s expert `b` stands in the whole array. -/
def wholeE (c : Dev nD) (b : Fin 2) : Fin 8 := ⟨c.val * 2 + b.val, by have : c.val < 4 := c.isLt; omega⟩

theorem agree_at
    (hx : ∀ c t l, xI m ρ c (ix2 t l) = xR m' (ix2 (whole c t) l))
    (hr : ∀ c, rI m ρ c = rR m')
    (hi : ∀ c t, iI m ρ c (ix2 t 0) = iR m' (ix2 (whole c t) 0))
    (he : ∀ c b l h, eI m ρ c (ix3 b l h) = eR m' (ix3 (wholeE c b) l h))
    (hs : ∀ c, sI m ρ c = sR m')
    (hcap : ∀ c g, g < 4 → wants (iI m ρ c) g ≤ 192) (c : Dev nD) (t h : Fin 512) :
    outAt m ρ c (ix2 t h) = Cert.ReferenceIdeal.Value.res_out0 m' 0 (ix2 (whole c t) h) := by
  have hsh : shared (xI m ρ c) (sI m ρ c) t h = (∑ l, xR m' (ix2 (whole c t) l) * sR m' (ix2 l h) : EReal) := by
    unfold shared
    rw [hs]
    exact Finset.sum_congr rfl fun l _ => by rw [hx]
  have hwd : wd (iI m ρ c) t = iR m' (ix2 (whole c t) 0) := hi c t
  rw [outAt_eq]
  by_cases hw : ∃ e : Fin 8, wd (iI m ρ c) t = BitVec.ofNat 32 e.val
  · obtain ⟨e, hw⟩ := hw
    have hc4 : c.val < 4 := c.isLt
    have hk : (e.val / 2 + 4 - c.val) % 4 < 4 := Nat.mod_lt _ (by decide)
    have hke : (c.val + (e.val / 2 + 4 - c.val) % 4) % 4 = e.val / 2 := by have := e.isLt; omega
    generalize (e.val / 2 + 4 - c.val) % 4 = k at hk hke
    rw [ref_in m' (whole c t) h e (hwd.symm.trans hw)]
    refine (out_in c (xI m ρ c) (rI m ρ c) (iI m ρ c) (sI m ρ c) (fun k => eI m ρ (rot k c))
      (fun j _ u _ => cnt_within _ c (hcap c) j u) e t h hw k hk hke).trans ?_
    rw [hsh, hr, show (fun l => xI m ρ c (ix2 t l)) = fun l => xR m' (ix2 (whole c t) l) from funext fun l => hx c t l]
    have hrow : ∀ b : Fin 2, b.val = e.val % 2 → (∑ l, xI m ρ c (ix2 t l) * eI m ρ (rot k c) (ix3 b l h) : EReal)
        = ∑ l, xR m' (ix2 (whole c t) l) * eR m' (ix3 e l h) := by
      intro b hb
      have hE : wholeE (rot k c) b = e := by
        refine Fin.ext ?_
        show (c.val + k) % 4 * 2 + b.val = e.val
        omega
      exact Finset.sum_congr rfl fun l _ => by rw [hx, he, hE]
    have hey : ey (eI m ρ (rot k c)) (xI m ρ c) (wd (iI m ρ c) t) t h = ∑ l, xR m' (ix2 (whole c t) l) * eR m' (ix3 e l h) := by
      unfold ey
      rw [hw]
      by_cases hb : e.val % 2 = 1
      · rw [if_pos ((bit_of e).2 hb)]
        exact hrow 1 hb.symm
      · rw [if_neg (fun h' => hb ((bit_of e).1 h'))]
        exact hrow 0 (by show 0 = e.val % 2; omega)
    rw [hey]
  · have hw' : ∀ e : Fin 8, wd (iI m ρ c) t ≠ BitVec.ofNat 32 e.val := fun e he' => hw ⟨e, he'⟩
    rw [ref_out m' (whole c t) h fun e => hwd ▸ hw' e]
    refine (out_out c (xI m ρ c) (rI m ρ c) (iI m ρ c) (sI m ρ c) (fun k => eI m ρ (rot k c)) t h hw').trans ?_
    exact hsh

/-- From memories whose arguments are the blocks of the whole arrays, the blocks of the whole result. -/
theorem agree
    (hargs : ∀ c : Dev nD,
      m ((c : Thread nD τ).loc main_arg0) = Layout.block ⟨2, ![512, 256]⟩ ⟨2, ![2048, 256]⟩ 0 4 c (xR m')
      ∧ m ((c : Thread nD τ).loc main_arg1) = rR m'
      ∧ m ((c : Thread nD τ).loc main_arg2) = Layout.block ⟨2, ![512, 1]⟩ ⟨2, ![2048, 1]⟩ 0 4 c (iR m')
      ∧ m ((c : Thread nD τ).loc main_arg3) = Layout.block ⟨3, ![2, 256, 512]⟩ ⟨3, ![8, 256, 512]⟩ 0 4 c (eR m')
      ∧ m ((c : Thread nD τ).loc main_arg4) = sR m')
    (hcap : ∀ (c : Dev nD) g, g < 4 → wants (m ((c : Thread nD τ).loc main_arg2)) g ≤ 192) (c : Dev nD) :
    outAt m ρ c = Layout.block ⟨2, ![512, 512]⟩ ⟨2, ![2048, 512]⟩ 0 4 c (Cert.ReferenceIdeal.Value.res_out0 m' 0) := by
  refine funext fun j => ?_
  have hj : j = ix2 (j 0) (j 1) := by
    funext a; fin_cases a <;> rfl
  rw [hj]
  refine (agree_at m ρ m' ?_ ?_ ?_ ?_ ?_ ?_ c (j 0) (j 1)).trans ?_
  · intro c t l
    rw [xI_eq, (hargs c).1]
    refine congrArg (xR m') (funext fun a => ?_)
    fin_cases a <;> rfl
  · intro c
    rw [rI_eq, (hargs c).2.1]
  · intro c t
    rw [iI_eq, (hargs c).2.2.1]
    refine congrArg (iR m') (funext fun a => ?_)
    fin_cases a <;> rfl
  · intro c b l h
    rw [eI_eq, (hargs c).2.2.2.1]
    refine congrArg (eR m') (funext fun a => ?_)
    fin_cases a <;> rfl
  · intro c
    rw [sI_eq, (hargs c).2.2.2.2]
  · intro c g hg
    rw [iI_eq]
    exact hcap c g hg
  · refine congrArg (Cert.ReferenceIdeal.Value.res_out0 m' 0) (funext fun a => ?_)
    fin_cases a <;> rfl

end Agree

end Cert.Moe

end
-- ==== Proof.lean ====
/-
# The claims

The frame claims of the kernel and of its ideal reading are one run, proved over any values of the floats; the
reference's is its own. The value claim reads the two runs' results at each token.
-/
module

public import proofs.«01_k».proof.Defs
public import proofs.«01_k».proof.Proof.Frames
public import proofs.«01_k».proof.Proof.Agree

@[expose] public section

noncomputable section

namespace Cert.Proof

open Idealize.ShloMosaic Idealize.SL.Sem

theorem frame_kernelIdeal : Cert.quiescent_KernelIdeal (hKernelIdeal := Cert.KernelIdeal.Gen.facts) := by
  intro m g _
  exact (θ_run Cert.KernelIdeal.defs _ _).mono (fun _ h => ⟨fun c => (h.1 c).2, h.2⟩) (Cert.Moe.run_arrays (F := Ideal) m g)

/-- The kernel as printed and its ideal reading are one program text: the run over any floats, at the bit-level ones. -/
theorem frame_kernel : Cert.quiescent_Kernel (hKernel := Cert.Kernel.Gen.facts) := by
  intro m g _
  rw [Cert.Moe.defs_eq]
  exact (θ_run (Cert.KernelIdeal.defs (F := Bits)) _ _).mono (fun _ h => ⟨fun c => (h.1 c).2, h.2⟩) (Cert.Moe.run_arrays (F := Bits) m g)

theorem frame_reference : Cert.quiescent_ReferenceIdeal (hReferenceIdeal := Cert.ReferenceIdeal.Gen.facts) := by
  intro m g _
  exact (θ_run Cert.ReferenceIdeal.defs _ _).mono (fun _ h => ⟨fun c => (h.1 c).2, h.2⟩)
    (Cert.Moe.run_reference (F := Ideal) m g)

/-- The precondition is not needed for the frames. -/
theorem frame_kernelIdeal_within : Cert.quiescent_KernelIdeal_pre_within_capacity_KernelIdeal (hKernelIdeal := Cert.KernelIdeal.Gen.facts)
    (hPre_within_capacity_KernelIdeal := Cert.Moe.preFacts) :=
  fun m g _ => frame_kernelIdeal m g trivial

theorem frame_reference_within : Cert.quiescent_ReferenceIdeal_pre_within_capacity_ReferenceIdeal (hReferenceIdeal := Cert.ReferenceIdeal.Gen.facts)
    (hPre_within_capacity_ReferenceIdeal := Cert.Moe.preFactsReference) :=
  fun m g _ => frame_reference m g trivial

/-- Each device ends with its block of the reference's result. -/
theorem algebraic : Cert.algebraic_KernelIdeal_ReferenceIdeal_pre_within_capacity_KernelIdeal (hKernelIdeal := Cert.KernelIdeal.Gen.facts)
    (hReferenceIdeal := Cert.ReferenceIdeal.Gen.facts) (hPre_within_capacity_KernelIdeal := Cert.Moe.preFacts) := by
  intro m g m' g' hpre hargs
  refine ⟨Cert.ReferenceIdeal.Value.res_out0 m' 0, ?_, ?_⟩
  · refine (θ_run Cert.KernelIdeal.defs _ _).mono (fun r h c => ⟨(h.1 c).1.trans ?_, (h.1 c).2⟩) (Cert.Moe.run_arrays (F := Ideal) m g)
    exact Cert.Moe.agree m g m' hargs (fun c n hn => Cert.Moe.pre_wants _ _ _ _ _ (hpre c) n hn) c
  · exact (θ_run Cert.ReferenceIdeal.defs _ _).mono (fun r h => h.1 0) (Cert.Moe.run_reference (F := Ideal) m' g')

theorem claim : Cert.Claim :=
  ⟨Cert.Kernel.Gen.facts, Cert.KernelIdeal.Gen.facts, Cert.ReferenceIdeal.Gen.facts, Cert.Moe.preFacts, Cert.Moe.preFactsReference,
    frame_kernel, frame_kernelIdeal, frame_kernelIdeal_within, frame_reference, frame_reference_within, trivial, algebraic⟩

end Cert.Proof

end
